-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_numbers_and_moderate_scales [hPre_numbers_and_moderate_scales : Cert.Pre_numbers_and_moderate_scales.Facts] (m : (ℓ : Loc Cert.KernelIdeal.nD Cert.KernelIdeal.τ Cert.KernelIdeal.sig) → Buf (Elt Ideal) ℓ) : Prop :=
  ∀ c : Dev Cert.KernelIdeal.nD,
    (Cert.Pre_numbers_and_moderate_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_numbers_and_moderate_scales [hPre_numbers_and_moderate_scales : Cert.Pre_numbers_and_moderate_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_numbers_and_moderate_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_numbers_and_moderate_scales [hKernelIdeal : Cert.KernelIdeal.Facts] [hPre_numbers_and_moderate_scales : Cert.Pre_numbers_and_moderate_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_numbers_and_moderate_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_numbers_and_moderate_scales [hReferenceIdeal : Cert.ReferenceIdeal.Facts] [hPre_numbers_and_moderate_scales : Cert.Pre_numbers_and_moderate_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_numbers_and_moderate_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S16x128 Cert.KernelIdeal.S8x128

def algebraic_KernelIdeal_ReferenceIdeal_pre_numbers_and_moderate_scales [hKernelIdeal : Cert.KernelIdeal.Facts] [hReferenceIdeal : Cert.ReferenceIdeal.Facts] [hPre_numbers_and_moderate_scales : Cert.Pre_numbers_and_moderate_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_numbers_and_moderate_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_numbers_and_moderate_scales : Cert.Pre_numbers_and_moderate_scales.Facts),
    quiescent_Kernel (hKernel := hKernel)
    ∧ quiescent_KernelIdeal (hKernelIdeal := hKernelIdeal)
    ∧ quiescent_KernelIdeal_pre_numbers_and_moderate_scales (hKernelIdeal := hKernelIdeal) (hPre_numbers_and_moderate_scales := hPre_numbers_and_moderate_scales)
    ∧ quiescent_ReferenceIdeal (hReferenceIdeal := hReferenceIdeal)
    ∧ quiescent_ReferenceIdeal_pre_numbers_and_moderate_scales (hReferenceIdeal := hReferenceIdeal) (hPre_numbers_and_moderate_scales := hPre_numbers_and_moderate_scales)
    ∧ preserves_Kernel_KernelIdeal
    ∧ algebraic_KernelIdeal_ReferenceIdeal_pre_numbers_and_moderate_scales (hKernelIdeal := hKernelIdeal) (hReferenceIdeal := hReferenceIdeal) (hPre_numbers_and_moderate_scales := hPre_numbers_and_moderate_scales)
-- ==== Pre_numbers_and_moderate_scales.lean ====
abbrev S2x384x36864 : Shape := ⟨3, ![2, 384, 36864]⟩
abbrev S2x384x1152 : Shape := ⟨3, ![2, 384, 1152]⟩
abbrev S2 : Shape := ⟨1, ![2]⟩
abbrev S_ : Shape := ⟨0, ![]⟩

class Facts : Prop where
  bcast_S_S2x384x36864 : S_.BroadcastsInDim S2x384x36864 (![] : Fin 0 → Fin S2x384x36864.rank)
  reducesTo_S2x384x36864_S_d0_1_2 : S2x384x36864.ReducesTo [0, 1, 2] S_
  h_S_ : 0 < S_.numel
  bcast_S_S2x384x1152 : S_.BroadcastsInDim S2x384x1152 (![] : Fin 0 → Fin S2x384x1152.rank)
  reducesTo_S2x384x1152_S_d0_1_2 : S2x384x1152.ReducesTo [0, 1, 2] S_

variable [Facts]

def fn {F : FTy → Type} [FloatOps F] (main_arg0 : IVec S2x384x36864 8) (main_arg1 : IVec S2x384x1152 8) (main_arg2 : IVec S2 32) : IVec S_ 1 :=
  let main_c : IVec S_ 8 := constantI S_ 8 127#8
  let main_v0 : IVec S2x384x36864 8 := broadcastInDim S2x384x36864 ![] bcast_S_S2x384x36864 main_c
  let main_v1 : IVec S2x384x36864 1 := cmpi .ne main_arg0 main_v0
  let main_c_0 : IVec S_ 8 := constantI S_ 8 255#8
  let main_v2 : IVec S2x384x36864 8 := broadcastInDim S2x384x36864 ![] bcast_S_S2x384x36864 main_c_0
  let main_v3 : IVec S2x384x36864 1 := cmpi .ne main_arg0 main_v2
  let main_v4 : IVec S2x384x36864 1 := andi main_v1 main_v3
  let main_c_1 : IVec S_ 1 := constantI S_ 1 1#1
  let main_v5 : IVec S_ 1 := (fun x v => Host.reduce IntOp.andi x v reducesTo_S2x384x36864_S_d0_1_2 h_S_) main_v4 main_c_1
  let main_c_2 : IVec S_ 8 := constantI S_ 8 11#8
  let main_v6 : IVec S2x384x1152 8 := broadcastInDim S2x384x1152 ![] bcast_S_S2x384x1152 main_c_2
  let main_v7 : IVec S2x384x1152 1 := cmpi .uge main_arg1 main_v6
  let main_c_3 : IVec S_ 8 := constantI S_ 8 246#8
  let main_v8 : IVec S2x384x1152 8 := broadcastInDim S2x384x1152 ![] bcast_S_S2x384x1152 main_c_3
  let main_v9 : IVec S2x384x1152 1 := cmpi .ule main_arg1 main_v8
  let main_v10 : IVec S2x384x1152 1 := andi main_v7 main_v9
  let main_c_4 : IVec S_ 1 := constantI S_ 1 1#1
  let main_v11 : IVec S_ 1 := (fun x v => Host.reduce IntOp.andi x v reducesTo_S2x384x1152_S_d0_1_2 h_S_) main_v10 main_c_4
  let main_v12 : IVec S_ 1 := andi main_v5 main_v11
  main_v12
-- ==== Kernel.lean ====
abbrev S2x384x36864 : Shape := ⟨3, ![2, 384, 36864]⟩
abbrev S2x384x1152 : Shape := ⟨3, ![2, 384, 1152]⟩
abbrev S2 : Shape := ⟨1, ![2]⟩
abbrev S2x192x36864 : Shape := ⟨3, ![2, 192, 36864]⟩
abbrev S2x12x36864 : Shape := ⟨3, ![2, 12, 36864]⟩
abbrev S1x384x4096 : Shape := ⟨3, ![1, 384, 4096]⟩
abbrev S1x384x128 : Shape := ⟨3, ![1, 384, 128]⟩
abbrev S1x192x4096 : Shape := ⟨3, ![1, 192, 4096]⟩
abbrev S1x12x4096 : Shape := ⟨3, ![1, 12, 4096]⟩
abbrev S12x4x8x128 : Shape := ⟨4, ![12, 4, 8, 128]⟩
abbrev S1 : Shape := ⟨1, ![1]⟩
abbrev S8x128 : Shape := ⟨2, ![8, 128]⟩
abbrev S1x32x128 : Shape := ⟨3, ![1, 32, 128]⟩
abbrev S32x128 : Shape := ⟨2, ![32, 128]⟩
abbrev S8x128x1 : Shape := ⟨3, ![8, 128, 1]⟩
abbrev S16x128 : Shape := ⟨2, ![16, 128]⟩
abbrev S1x1x8x128 : Shape := ⟨4, ![1, 1, 8, 128]⟩
abbrev S12x128 : Shape := ⟨2, ![12, 128]⟩
abbrev S1x12x128 : Shape := ⟨3, ![1, 12, 128]⟩
abbrev S2x36864x192 : Shape := ⟨3, ![2, 36864, 192]⟩
abbrev S2x36864x12 : Shape := ⟨3, ![2, 36864, 12]⟩

abbrev nBuf : Space → Nat
  | .hbm => 7
  | .vmem => 9
  | .smem => 1
  | _ => 0

abbrev bufTy : (tb : Table) → Fin (tcTables nBuf tb) → BufTy
  | .hbm, ⟨0, _⟩ => ⟨S2x384x36864, .i8⟩
  | .hbm, ⟨1, _⟩ => ⟨S2x384x1152, .i8⟩
  | .hbm, ⟨2, _⟩ => ⟨S2, .i32⟩
  | .hbm, ⟨3, _⟩ => ⟨S2x192x36864, .i8⟩
  | .hbm, ⟨4, _⟩ => ⟨S2x12x36864, .i8⟩
  | .hbm, ⟨5, _⟩ => ⟨S2x36864x192, .i8⟩
  | .hbm, ⟨6, _⟩ => ⟨S2x36864x12, .i8⟩
  | .local _ .vmem, ⟨0, _⟩ => ⟨S1x384x4096, .i8⟩
  | .local _ .vmem, ⟨1, _⟩ => ⟨S1x384x4096, .i8⟩
  | .local _ .vmem, ⟨2, _⟩ => ⟨S1x384x128, .i8⟩
  | .local _ .vmem, ⟨3, _⟩ => ⟨S1x384x128, .i8⟩
  | .local _ .vmem, ⟨4, _⟩ => ⟨S1x192x4096, .i8⟩
  | .local _ .vmem, ⟨5, _⟩ => ⟨S1x192x4096, .i8⟩
  | .local _ .vmem, ⟨6, _⟩ => ⟨S1x12x4096, .i8⟩
  | .local _ .vmem, ⟨7, _⟩ => ⟨S1x12x4096, .i8⟩
  | .local _ .vmem, ⟨8, _⟩ => ⟨S12x4x8x128, .i32⟩
  | .local _ .smem, ⟨0, _⟩ => ⟨S2, .i32⟩
  | _, _ => ⟨S2x384x36864, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![2, 9], ![false, false]⟩

@[reducible] def k0_t1_loop : Scf.Loop 32 :=
  let c0_i32_20 : BitVec 32 := 0#32
  let c8_i32 : BitVec 32 := 8#32
  let v59 : BitVec 32 := Scalar.addi c0_i32_20 c8_i32
  let c1_i32 : BitVec 32 := 1#32
  ⟨c0_i32_20, v59, c1_i32⟩
def k0_mult1 (k0_t1 : Fin k0_t1_loop.trips) : BitVec 32 :=
  let c0_i32_20 : BitVec 32 := 0#32
  let c1_i32 : BitVec 32 := 1#32
  let arg8 : BitVec 32 := Scf.iv c0_i32_20 c1_i32 k0_t1
  let c512_i32 : BitVec 32 := 512#32
  let v60 : BitVec 32 := Scalar.muli arg8 c512_i32
  v60
@[reducible] def k0_t2_loop : Scf.Loop 32 :=
  let c0_i32_22 : BitVec 32 := 0#32
  let c6_i32 : BitVec 32 := 6#32
  let v62 : BitVec 32 := Scalar.addi c0_i32_22 c6_i32
  let c1_i32_23 : BitVec 32 := 1#32
  ⟨c0_i32_22, v62, c1_i32_23⟩
def k0_mult2 (k0_t2 : Fin k0_t2_loop.trips) : BitVec 32 :=
  let c0_i32_22 : BitVec 32 := 0#32
  let c1_i32_23 : BitVec 32 := 1#32
  let arg9 : BitVec 32 := Scf.iv c0_i32_22 c1_i32_23 k0_t2
  let c64_i32 : BitVec 32 := 64#32
  let v425 : BitVec 32 := Scalar.muli arg9 c64_i32
  v425
def k0_off1 (k0_t1 : Fin k0_t1_loop.trips) (k0_t2 : Fin k0_t2_loop.trips) (c0_i32_310 : BitVec 32) (c0_i32_311 : BitVec 32) : Fin 3 → Nat :=
  let c0_312 : Index := 0#32
  let c0_i32_22 : BitVec 32 := 0#32
  let c1_i32_23 : BitVec 32 := 1#32
  let arg9 : BitVec 32 := Scf.iv c0_i32_22 c1_i32_23 k0_t2
  let c64_i32 : BitVec 32 := 64#32
  let v425 : BitVec 32 := Scalar.muli arg9 c64_i32
  let v426 : BitVec 32 := v425
  let v434 : BitVec 32 := Scalar.addi v426 c0_i32_310
  let v436 : Index := Scalar.indexCast v434
  let c0_i32_20 : BitVec 32 := 0#32
  let c1_i32 : BitVec 32 := 1#32
  let arg8 : BitVec 32 := Scf.iv c0_i32_20 c1_i32 k0_t1
  let c512_i32 : BitVec 32 := 512#32
  let v60 : BitVec 32 := Scalar.muli arg8 c512_i32
  let v61 : BitVec 32 := v60
  let v435 : BitVec 32 := Scalar.addi v61 c0_i32_311
  let v437 : Index := Scalar.indexCast v435
  ![0, v436.toNat, v437.toNat]
def k0_off2 (k0_t2 : Fin k0_t2_loop.trips) (c0_i32_310 : BitVec 32) : Fin 3 → Nat :=
  let c0_331 : Index := 0#32
  let c0_i32_22 : BitVec 32 := 0#32
  let c1_i32_23 : BitVec 32 := 1#32
  let arg9 : BitVec 32 := Scf.iv c0_i32_22 c1_i32_23 k0_t2
  let c64_i32 : BitVec 32 := 64#32
  let v425 : BitVec 32 := Scalar.muli arg9 c64_i32
  let v426 : BitVec 32 := v425
  let v434 : BitVec 32 := Scalar.addi v426 c0_i32_310
  let v492 : Index := Scalar.indexCast v434
  let c0_332 : Index := 0#32
  ![0, v492.toNat, 0]
def k0_off3 (k0_t2 : Fin k0_t2_loop.trips) (c0_i32_960 : BitVec 32) : Fin 4 → Nat :=
  let c2_i32_959 : BitVec 32 := 2#32
  let c0_i32_22 : BitVec 32 := 0#32
  let c1_i32_23 : BitVec 32 := 1#32
  let arg9 : BitVec 32 := Scf.iv c0_i32_22 c1_i32_23 k0_t2
  let v2278 : BitVec 32 := Scalar.muli c2_i32_959 arg9
  let v2279 : BitVec 32 := Scalar.addi v2278 c0_i32_960
  let v2280 : Index := Scalar.indexCast v2279
  let c0_961 : Index := 0#32
  let c0_962 : Index := 0#32
  let c0_963 : Index := 0#32
  ![v2280.toNat, 0, 0, 0]
def k0_off4 (k0_t2 : Fin k0_t2_loop.trips) (c0_i32_1017 : BitVec 32) : Fin 4 → Nat :=
  let c2_i32_1016 : BitVec 32 := 2#32
  let c0_i32_22 : BitVec 32 := 0#32
  let c1_i32_23 : BitVec 32 := 1#32
  let arg9 : BitVec 32 := Scf.iv c0_i32_22 c1_i32_23 k0_t2
  let v2480 : BitVec 32 := Scalar.muli c2_i32_1016 arg9
  let v2481 : BitVec 32 := Scalar.addi v2480 c0_i32_1017
  let v2482 : Index := Scalar.indexCast v2481
  let c1_1018 : Index := 1#32
  let c0_1019 : Index := 0#32
  let c0_1020 : Index := 0#32
  ![v2482.toNat, 1, 0, 0]
def k0_off5 (k0_t2 : Fin k0_t2_loop.trips) (c0_i32_1080 : BitVec 32) : Fin 4 → Nat :=
  let c2_i32_1079 : BitVec 32 := 2#32
  let c0_i32_22 : BitVec 32 := 0#32
  let c1_i32_23 : BitVec 32 := 1#32
  let arg9 : BitVec 32 := Scf.iv c0_i32_22 c1_i32_23 k0_t2
  let v2682 : BitVec 32 := Scalar.muli c2_i32_1079 arg9
  let v2683 : BitVec 32 := Scalar.addi v2682 c0_i32_1080
  let v2684 : Index := Scalar.indexCast v2683
  let c2_1081 : Index := 2#32
  let c0_1082 : Index := 0#32
  let c0_1083 : Index := 0#32
  ![v2684.toNat, 2, 0, 0]
def k0_off6 (k0_t2 : Fin k0_t2_loop.trips) (c0_i32_1143 : BitVec 32) : Fin 4 → Nat :=
  let c2_i32_1142 : BitVec 32 := 2#32
  let c0_i32_22 : BitVec 32 := 0#32
  let c1_i32_23 : BitVec 32 := 1#32
  let arg9 : BitVec 32 := Scf.iv c0_i32_22 c1_i32_23 k0_t2
  let v2884 : BitVec 32 := Scalar.muli c2_i32_1142 arg9
  let v2885 : BitVec 32 := Scalar.addi v2884 c0_i32_1143
  let v2886 : Index := Scalar.indexCast v2885
  let c3_1144 : Index := 3#32
  let c0_1145 : Index := 0#32
  let c0_1146 : Index := 0#32
  ![v2886.toNat, 3, 0, 0]
def k0_mult3 (k0_t2 : Fin k0_t2_loop.trips) : BitVec 32 :=
  let c0_i32_22 : BitVec 32 := 0#32
  let c1_i32_23 : BitVec 32 := 1#32
  let arg9 : BitVec 32 := Scf.iv c0_i32_22 c1_i32_23 k0_t2
  let c32_i32_2070 : BitVec 32 := 32#32
  let v5580 : BitVec 32 := Scalar.muli arg9 c32_i32_2070
  v5580
def k0_off7 (k0_t1 : Fin k0_t1_loop.trips) (k0_t2 : Fin k0_t2_loop.trips) (c0_i32_2083 : BitVec 32) : Fin 3 → Nat :=
  let c0_2084 : Index := 0#32
  let c0_i32_22 : BitVec 32 := 0#32
  let c1_i32_23 : BitVec 32 := 1#32
  let arg9 : BitVec 32 := Scf.iv c0_i32_22 c1_i32_23 k0_t2
  let c32_i32_2070 : BitVec 32 := 32#32
  let v5580 : BitVec 32 := Scalar.muli arg9 c32_i32_2070
  let v5581 : BitVec 32 := v5580
  let v5609 : Index := Scalar.indexCast v5581
  let c0_i32_20 : BitVec 32 := 0#32
  let c1_i32 : BitVec 32 := 1#32
  let arg8 : BitVec 32 := Scf.iv c0_i32_20 c1_i32 k0_t1
  let c512_i32 : BitVec 32 := 512#32
  let v60 : BitVec 32 := Scalar.muli arg8 c512_i32
  let v61 : BitVec 32 := v60
  let v5608 : BitVec 32 := Scalar.addi v61 c0_i32_2083
  let v5610 : Index := Scalar.indexCast v5608
  ![0, v5609.toNat, v5610.toNat]
def k0_off8 (k0_t1 : Fin k0_t1_loop.trips) (c0_i32_299 : BitVec 32) : Fin 3 → Nat :=
  let c0_300 : Index := 0#32
  let c0_301 : Index := 0#32
  let c0_i32_20 : BitVec 32 := 0#32
  let c1_i32 : BitVec 32 := 1#32
  let arg8 : BitVec 32 := Scf.iv c0_i32_20 c1_i32 k0_t1
  let c512_i32 : BitVec 32 := 512#32
  let v60 : BitVec 32 := Scalar.muli arg8 c512_i32
  let v61 : BitVec 32 := v60
  let v396 : BitVec 32 := Scalar.addi v61 c0_i32_299
  let v397 : Index := Scalar.indexCast v396
  ![0, 0, v397.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x384x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x12x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F]
-- ==== ReferenceIdeal.lean ====
abbrev S2x384x36864 : Shape := ⟨3, ![2, 384, 36864]⟩
abbrev S2x384x1152 : Shape := ⟨3, ![2, 384, 1152]⟩
abbrev S2 : Shape := ⟨1, ![2]⟩
abbrev S2x192x36864 : Shape := ⟨3, ![2, 192, 36864]⟩
abbrev S2x12x36864 : Shape := ⟨3, ![2, 12, 36864]⟩
abbrev S2x384x1152x32 : Shape := ⟨4, ![2, 384, 1152, 32]⟩
abbrev S2x384x1152x1 : Shape := ⟨4, ![2, 384, 1152, 1]⟩
abbrev S1 : Shape := ⟨1, ![1]⟩
abbrev S2x12x32x36864 : Shape := ⟨4, ![2, 12, 32, 36864]⟩
abbrev S2x12x1x36864 : Shape := ⟨4, ![2, 12, 1, 36864]⟩
abbrev S2x192x2x36864 : Shape := ⟨4, ![2, 192, 2, 36864]⟩
abbrev S2x192x1x36864 : Shape := ⟨4, ![2, 192, 1, 36864]⟩
abbrev S2x36864x192 : Shape := ⟨3, ![2, 36864, 192]⟩
abbrev S2x36864x12 : Shape := ⟨3, ![2, 36864, 12]⟩

abbrev nBuf : Space → Nat
  | .hbm => 7
  | .vmem => 4
  | .smem => 1
  | _ => 0

abbrev bufTy : (tb : Table) → Fin (tcTables nBuf tb) → BufTy
  | .hbm, ⟨0, _⟩ => ⟨S2x384x36864, .i8⟩
  | .hbm, ⟨1, _⟩ => ⟨S2x384x1152, .i8⟩
  | .hbm, ⟨2, _⟩ => ⟨S2, .i32⟩
  | .hbm, ⟨3, _⟩ => ⟨S2x192x36864, .i8⟩
  | .hbm, ⟨4, _⟩ => ⟨S2x12x36864, .i8⟩
  | .hbm, ⟨5, _⟩ => ⟨S2x36864x192, .i8⟩
  | .hbm, ⟨6, _⟩ => ⟨S2x36864x12, .i8⟩
  | .local _ .vmem, ⟨0, _⟩ => ⟨S2x384x36864, .i8⟩
  | .local _ .vmem, ⟨1, _⟩ => ⟨S2x384x1152, .i8⟩
  | .local _ .vmem, ⟨2, _⟩ => ⟨S2x192x36864, .i8⟩
  | .local _ .vmem, ⟨3, _⟩ => ⟨S2x12x36864, .i8⟩
  | .local _ .smem, ⟨0, _⟩ => ⟨S2, .i32⟩
  | _, _ => ⟨S2x384x36864, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2x384x36864 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x384x1152 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x192x36864 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x12x36864 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.RunKernel.lean ====
/- The frame of the `Kernel` program: its body runs to the end on any contents, the operands stay as they were, and
   nothing is said here of what the two result blocks hold. -/
module

public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

set_option warn.classDefReducibility false in
set_option maxHeartbeats 4000000 in
/-- The outer loop: each trip leaves the two operand blocks as they were and the results and the scratch at some contents. -/
@[sl_loop] def loopInv_k0_t1 (c : Dev nD) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole) (arg0 : BitVec 32) (arg1 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v40 : IVec S8x128 32)
    (X_arg3 : BufTy.Contents (Elt F) arg3.view.ty) (X_arg4 : BufTy.Contents (Elt F) arg4.view.ty) :
    LoopInvTy_k0_t1 (F := F) Unit ℕ (UR sig nD τ) ℕ Variants.none c none Set.univ i arg2 harg2 arg3 harg3 arg4 harg4 arg5 harg5 arg6 harg6 arg7 harg7 arg0 arg1 v1 v3 v5 v7 v9 v11 v13 v15 v17 v19 v21 v23 v25 v27 v29 v31 v33 v35 v37 v39 v40 where
  inv k acc := iprop((arg3.view.loc (c : Thread nD τ) ↦[arg3.view.set]{fullShare} X_arg3) ∗ (arg4.view.loc (c : Thread nD τ) ↦[arg4.view.set]{fullShare} X_arg4)
    ∗ (∃ f, (arg5.view.loc (c : Thread nD τ) ↦[arg5.view.set]{fullShare} f)) ∗ (∃ f, (arg6.view.loc (c : Thread nD τ) ↦[arg6.view.set]{fullShare} f))
    ∗ (∃ f, (arg7.view.loc (c : Thread nD τ) ↦[arg7.view.set]{fullShare} f)))
  step k acc := by
    unfold k0_t1_body
    iintro ⟨H3, H4, ⟨%f5, H5⟩, ⟨%f6, H6⟩, ⟨%f7, H7⟩⟩
    sl_exec
    sl_step
    isplitl [H3]; · iexact H3
    isplitl [H4]; · iexact H4
    isplitl [H5]; · iexists _; iexact H5
    isplitl [H6]; · iexists _; iexact H6
    iexists _; iexact H7

set_option maxHeartbeats 4000000 in
/-- The body on whole blocks: it runs to the end, the operands as they were, the results and the scratch at some contents. -/
theorem body_run (c : Dev nD) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole)
    (x2 : Vec F S2 .i32) (x3 : Vec F S1x384x4096 .i8) (x4 : Vec F S1x384x128 .i8) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) Set.univ (cc0__body i arg2 harg2 arg3 harg3 arg4 harg4 arg5 harg5 arg6 harg6 arg7 harg7) K := by
  simp only [cc0__body_eq_skeleton]; unfold cc0__body_skel
  simp only [k0_part130_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf2; obtain rfl := harg3.eq_unread hf3; obtain rfl := harg4.eq_unread hf4
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; iexists _; isplitr
    swap; · iexact H5
    ipureintro; rfl
  isplitl [H6]
  · iexists _; iexists _; isplitr
    swap; · iexact H6
    ipureintro; rfl
  iexists _; iexists _; isplitr
  swap; · iexact H7
  ipureintro; rfl

variable (m : (ℓ : Loc nD τ sig) → Buf (Elt F) ℓ) (ρ : Dev nD → PrngReg)

/-- The proof data: the arrays as the region finds them, each operand's block left in place, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) (Val := Elt F) ⟨3, h⟩ t
    | ⟨4, h⟩ => Dat.unnamed (cfg := cfg0) (Val := Elt F) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The two result windows are the forgotten ones. -/
def fgt : Fin cfg0.W → Bool := fun w => decide (3 ≤ w.val)

/-- The scratch, taken out of the region's invariant at some contents. -/
theorem Phi_eq (c : Dev nD) (t) : (dats m 0 c).Φ t
    = iprop(((∃ d, owns (c : Thread nD τ) (Memref.whole cc0_scratch0) fullShare d)) ∗ (∃ r, prngReg c r)) := by
  show Pipeline.ΦA spec0 c = _
  rw [Pipeline.ΦA, scopedRest0_eq]
  simp only [owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X)
    ∗ (∃ X, owns (c : Thread nD τ) (st0_4 t) fullShare X))

/-- The body at any point: the operands hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, Phi_eq, Phi_eq]
  iintro ⟨⟨Hs, Hp⟩, Ho, ⟨%d0, H0⟩, ⟨%d1, H1⟩, ⟨%d2, H2⟩, H3, H4⟩
  iapply (body_run c _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- The buffers the host operations after the region write. -/
def T0 : Finset (Ref sig .tc) := {main_v1, main_v2}

theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, Finset.mem_singleton] at hb
    have hb' := Proc.devRef_injective .tc hb
    rw [hb']; decide

set_option backward.isDefEq.respectTransparency.types false in
set_option maxHeartbeats 800000 in
/-- The launch. -/
theorem run_main : θ_run defs (onTc (τ := τ) (main (F := F))) (s₀ m ρ)
    (fun r => Pipeline.RDat.FramePostR cfg0 (fun c => (dats m 0 c).toRForget fgt) T0 (V m) r ∧ r.2.sem = fun _ => 0) :=
  Pipeline.θ_run_frame_around_T_forget (Q' := _) cfgs (dats m) (0 : Fin 1) launch0 defs₀ Variants.none fgt T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePostR.arr_in h.1 c 1 rfl).trans ((A_eq m c 1).trans (V_main_arg0 m c)),
     (Pipeline.RDat.FramePostR.arr_in h.1 c 2 rfl).trans ((A_eq m c 2).trans (V_main_arg1 m c)),
     (Pipeline.RDat.FramePostR.arr_in h.1 c 0 rfl).trans ((A_eq m c 0).trans (V_main_arg2 m c))⟩, h.2⟩) (run_main m ρ)

end Cert.Kernel.Run

end
-- ==== Proof.RunKernelIdeal.lean ====
/- The frame of the `KernelIdeal` program: its body runs to the end on any contents, the operands stay as they were, and
   nothing is said here of what the two result blocks hold. -/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option warn.classDefReducibility false in
set_option maxHeartbeats 4000000 in
/-- The outer loop: each trip leaves the two operand blocks as they were and the results and the scratch at some contents. -/
@[sl_loop] def loopInv_k0_t1 (c : Dev nD) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole) (arg0 : BitVec 32) (arg1 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v40 : IVec S8x128 32)
    (X_arg3 : BufTy.Contents (Elt F) arg3.view.ty) (X_arg4 : BufTy.Contents (Elt F) arg4.view.ty) :
    LoopInvTy_k0_t1 (F := F) Unit ℕ (UR sig nD τ) ℕ Variants.none c none Set.univ i arg2 harg2 arg3 harg3 arg4 harg4 arg5 harg5 arg6 harg6 arg7 harg7 arg0 arg1 v1 v3 v5 v7 v9 v11 v13 v15 v17 v19 v21 v23 v25 v27 v29 v31 v33 v35 v37 v39 v40 where
  inv k acc := iprop((arg3.view.loc (c : Thread nD τ) ↦[arg3.view.set]{fullShare} X_arg3) ∗ (arg4.view.loc (c : Thread nD τ) ↦[arg4.view.set]{fullShare} X_arg4)
    ∗ (∃ f, (arg5.view.loc (c : Thread nD τ) ↦[arg5.view.set]{fullShare} f)) ∗ (∃ f, (arg6.view.loc (c : Thread nD τ) ↦[arg6.view.set]{fullShare} f))
    ∗ (∃ f, (arg7.view.loc (c : Thread nD τ) ↦[arg7.view.set]{fullShare} f)))
  step k acc := by
    unfold k0_t1_body
    iintro ⟨H3, H4, ⟨%f5, H5⟩, ⟨%f6, H6⟩, ⟨%f7, H7⟩⟩
    sl_exec
    sl_step
    isplitl [H3]; · iexact H3
    isplitl [H4]; · iexact H4
    isplitl [H5]; · iexists _; iexact H5
    isplitl [H6]; · iexists _; iexact H6
    iexists _; iexact H7

set_option maxHeartbeats 4000000 in
/-- The body on whole blocks: it runs to the end, the operands as they were, the results and the scratch at some contents. -/
theorem body_run (c : Dev nD) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole)
    (x2 : Vec F S2 .i32) (x3 : Vec F S1x384x4096 .i8) (x4 : Vec F S1x384x128 .i8) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) Set.univ (cc0__body i arg2 harg2 arg3 harg3 arg4 harg4 arg5 harg5 arg6 harg6 arg7 harg7) K := by
  simp only [cc0__body_eq_skeleton]; unfold cc0__body_skel
  simp only [k0_part130_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf2; obtain rfl := harg3.eq_unread hf3; obtain rfl := harg4.eq_unread hf4
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; iexists _; isplitr
    swap; · iexact H5
    ipureintro; rfl
  isplitl [H6]
  · iexists _; iexists _; isplitr
    swap; · iexact H6
    ipureintro; rfl
  iexists _; iexists _; isplitr
  swap; · iexact H7
  ipureintro; rfl

variable (m : (ℓ : Loc nD τ sig) → Buf (Elt F) ℓ) (ρ : Dev nD → PrngReg)

/-- The proof data: the arrays as the region finds them, each operand's block left in place, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) (Val := Elt F) ⟨3, h⟩ t
    | ⟨4, h⟩ => Dat.unnamed (cfg := cfg0) (Val := Elt F) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The two result windows are the forgotten ones. -/
def fgt : Fin cfg0.W → Bool := fun w => decide (3 ≤ w.val)

/-- The scratch, taken out of the region's invariant at some contents. -/
theorem Phi_eq (c : Dev nD) (t) : (dats m 0 c).Φ t
    = iprop(((∃ d, owns (c : Thread nD τ) (Memref.whole cc0_scratch0) fullShare d)) ∗ (∃ r, prngReg c r)) := by
  show Pipeline.ΦA spec0 c = _
  rw [Pipeline.ΦA, scopedRest0_eq]
  simp only [owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X)
    ∗ (∃ X, owns (c : Thread nD τ) (st0_4 t) fullShare X))

/-- The body at any point: the operands hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, Phi_eq, Phi_eq]
  iintro ⟨⟨Hs, Hp⟩, Ho, ⟨%d0, H0⟩, ⟨%d1, H1⟩, ⟨%d2, H2⟩, H3, H4⟩
  iapply (body_run c _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-- The buffers the host operations after the region write. -/
def T0 : Finset (Ref sig .tc) := {main_v1, main_v2}

theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.unary_writes, Finset.mem_singleton] at hb
    have hb' := Proc.devRef_injective .tc hb
    rw [hb']; decide

set_option backward.isDefEq.respectTransparency.types false in
set_option maxHeartbeats 800000 in
/-- The launch. -/
theorem run_main : θ_run defs (onTc (τ := τ) (main (F := F))) (s₀ m ρ)
    (fun r => Pipeline.RDat.FramePostR cfg0 (fun c => (dats m 0 c).toRForget fgt) T0 (V m) r ∧ r.2.sem = fun _ => 0) :=
  Pipeline.θ_run_frame_around_T_forget (Q' := _) cfgs (dats m) (0 : Fin 1) launch0 defs₀ Variants.none fgt T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePostR.arr_in h.1 c 1 rfl).trans ((A_eq m c 1).trans (V_main_arg0 m c)),
     (Pipeline.RDat.FramePostR.arr_in h.1 c 2 rfl).trans ((A_eq m c 2).trans (V_main_arg1 m c)),
     (Pipeline.RDat.FramePostR.arr_in h.1 c 0 rfl).trans ((A_eq m c 0).trans (V_main_arg2 m c))⟩, h.2⟩) (run_main m ρ)

end Cert.KernelIdeal.Run

end
-- ==== Proof.PreFacts.lean ====
/- The precondition: the facts its function states, and what it says of every element of the arguments. -/
module

public import proofs.«01_k».proof.Pre_numbers_and_moderate_scales
public import Idealize.ShloMosaic.Lib.Affine
public import Idealize.ShloMosaic.Lib.Decide
public import Idealize.ShloMosaic.Lib.Exec
public import Idealize.ShloMosaic.Lib.ReduceAll

@[expose] public section

namespace Cert.Pre_numbers_and_moderate_scales.Val

open Idealize.ShloMosaic Idealize.SL.Sem

theorem bcast_S_S2x384x36864 : S_.BroadcastsInDim S2x384x36864 (![] : Fin 0 → Fin S2x384x36864.rank) := by decide
theorem reducesTo_S2x384x36864_S_d0_1_2 : S2x384x36864.ReducesTo [0, 1, 2] S_ := by decide
theorem h_S_ : 0 < S_.numel := by decide
theorem bcast_S_S2x384x1152 : S_.BroadcastsInDim S2x384x1152 (![] : Fin 0 → Fin S2x384x1152.rank) := by decide
theorem reducesTo_S2x384x1152_S_d0_1_2 : S2x384x1152.ReducesTo [0, 1, 2] S_ := by decide

/-- The function's facts. -/
instance facts : Cert.Pre_numbers_and_moderate_scales.Facts where
  bcast_S_S2x384x36864 := @bcast_S_S2x384x36864
  reducesTo_S2x384x36864_S_d0_1_2 := @reducesTo_S2x384x36864_S_d0_1_2
  h_S_ := @h_S_
  bcast_S_S2x384x1152 := @bcast_S_S2x384x1152
  reducesTo_S2x384x1152_S_d0_1_2 := @reducesTo_S2x384x1152_S_d0_1_2

theorem and_one {a b : BitVec 1} (h : IntOp.andi a b = 1#1) : a = 1#1 ∧ b = 1#1 := by
  revert a b; decide
theorem ne_one {a b : BitVec 8} (h : IntOp.cmpi .ne a b = 1#1) : a ≠ b := by
  intro e; subst e
  simp [IntOp.cmpi] at h
theorem ofBool_true {b : Bool} (h : BitVec.ofBool b = 1#1) : b = true := by
  revert b; decide
theorem uge_one {a b : BitVec 8} (h : IntOp.cmpi .uge a b = 1#1) : b.toNat ≤ a.toNat := by
  simp only [IntOp.cmpi] at h
  exact BitVec.le_def.1 (BitVec.ule_iff_le.1 (ofBool_true h))
theorem ule_one {a b : BitVec 8} (h : IntOp.cmpi .ule a b = 1#1) : a.toNat ≤ b.toNat := by
  simp only [IntOp.cmpi] at h
  exact BitVec.le_def.1 (BitVec.ule_iff_le.1 (ofBool_true h))

instance : Subsingleton S_.Idx := ⟨fun a b => funext fun i => i.elim0⟩

/-- Every code is a number, and every scale is in the range. -/
theorem of_fn {F : FTy → Type} [FloatOps F] (x : IVec S2x384x36864 8) (s : IVec S2x384x1152 8) (u : IVec S2 32) (i : S_.Idx) (h : fn (F := F) x s u i = 1#1) :
    (∀ i, x i ≠ 127#8 ∧ x i ≠ 255#8) ∧ ∀ i, 11 ≤ (s i).toNat ∧ (s i).toNat ≤ 246 := by
  obtain ⟨h1, h2⟩ := and_one h
  refine ⟨fun k => ?_, fun k => ?_⟩
  · obtain ⟨a, b⟩ := and_one (Host.reduce_andi_all (t := S_) _ _ _ _ i h1 k)
    exact ⟨ne_one a, ne_one b⟩
  · obtain ⟨a, b⟩ := and_one (Host.reduce_andi_all (t := S_) _ _ _ _ i h2 k)
    exact ⟨uge_one (b := 11#8) a, ule_one (b := 246#8) b⟩

end Cert.Pre_numbers_and_moderate_scales.Val
-- ==== Proof.RefRun.lean ====
/- The reference's whole-array words: the Philox rounds on all the counters at once, and the two results as the payloads of its two stores. -/
module

public import proofs.«01_k».proof.Proof.Gen.ReferenceIdeal.Frame
public import Idealize.ShloMosaic.Lib.ValueIdx

@[expose] public section

set_option maxRecDepth 65536

noncomputable section

namespace Cert.ReferenceIdeal.Val

open Cert.ReferenceIdeal Cert.ReferenceIdeal.Gen
open Idealize.ShloMosaic Idealize.ShloMosaic.ValueIdx Idealize.ShloMosaic.TcCoe Idealize.ShloMosaic.Tactic Idealize.SL.Sem

/-- A word at every row and column. -/
abbrev T := IVec S2x384x36864 32
/-- One word everywhere. -/
abbrev bcT (k : BitVec 32) : T := broadcast S2x384x36864 k

/-- The high word of the product by `m`, from the four products of 16-bit halves. -/
def mh (m : BitVec 32) (b : T) : T :=
  have ah := Scalar.shrui m 16#32
  have al := Scalar.andi m 65535#32
  have bh := shrui b (bcT 16#32)
  have bl := andi b (bcT 65535#32)
  have u1 := addi (muli (bcT ah) bl) (shrui (muli (bcT al) bl) (bcT 16#32))
  have u2 := addi (muli (bcT al) bh) (andi u1 (bcT 65535#32))
  addi (addi (muli (bcT ah) bh) (shrui u1 (bcT 16#32))) (shrui u2 (bcT 16#32))

/-- The four counters. -/
structure RSt where
  c0 : T
  c1 : T
  c2 : T
  c3 : T

/-- One round. -/
def round (k l : BitVec 32) (s : RSt) : RSt :=
  ⟨xori (xori (mh 3449720151#32 s.c2) s.c1) (bcT k), muli (bcT 3449720151#32) s.c2,
    xori (xori (mh 3528531795#32 s.c0) s.c3) (bcT l), muli (bcT 3528531795#32) s.c0⟩

/-- The ten rounds. -/
def philox (w u : BitVec 32) (calls : T) : RSt :=
  let r0 : RSt := ⟨calls, broadcast S2x384x36864 0#32, broadcast S2x384x36864 0#32, broadcast S2x384x36864 0#32⟩
  let k0 := w
  let l0 := u
  let r1 := round k0 l0 r0
  let k1 := Scalar.addi k0 2654435769#32
  let l1 := Scalar.addi l0 3144134277#32
  let r2 := round k1 l1 r1
  let k2 := Scalar.addi k1 2654435769#32
  let l2 := Scalar.addi l1 3144134277#32
  let r3 := round k2 l2 r2
  let k3 := Scalar.addi k2 2654435769#32
  let l3 := Scalar.addi l2 3144134277#32
  let r4 := round k3 l3 r3
  let k4 := Scalar.addi k3 2654435769#32
  let l4 := Scalar.addi l3 3144134277#32
  let r5 := round k4 l4 r4
  let k5 := Scalar.addi k4 2654435769#32
  let l5 := Scalar.addi l4 3144134277#32
  let r6 := round k5 l5 r5
  let k6 := Scalar.addi k5 2654435769#32
  let l6 := Scalar.addi l5 3144134277#32
  let r7 := round k6 l6 r6
  let k7 := Scalar.addi k6 2654435769#32
  let l7 := Scalar.addi l6 3144134277#32
  let r8 := round k7 l7 r7
  let k8 := Scalar.addi k7 2654435769#32
  let l8 := Scalar.addi l7 3144134277#32
  let r9 := round k8 l8 r8
  let k9 := Scalar.addi k8 2654435769#32
  let l9 := Scalar.addi l8 3144134277#32
  let r10 := round k9 l9 r9
  r10

/-- The random word of every row and column. -/
def rword (w u : BitVec 32) : T :=
  have s := philox w u k0_pay3
  have lane := andi (iota .tc S2x384x36864 32 [2] iota_S2x384x36864_d2_w32) (bcT 3#32)
  select (cmpi .eq lane (bcT 0#32)) s.c0 (select (cmpi .eq lane (bcT 1#32)) s.c1 (select (cmpi .eq lane (bcT 2#32)) s.c2 s.c3))

/-- The values from the codes and the scales. -/
def rval (x : Vec Ideal S2x384x36864 .i8) (s : Vec Ideal S2x384x1152 .i8) : FVec Ideal S2x384x36864 .f32 := k0_pay2 s x

/-- The codes. -/
def rcodes (V : FVec Ideal S2x384x36864 .f32) (R : T) : IVec S2x192x36864 8 :=
  k0_pay1 (k0_pay87 V) (k0_pay98 (k0_pay87 V) (k0_pay88 V)) (k0_pay99 (k0_pay87 V) (k0_pay88 V)) (k0_pay100 R)
/-- The scales. -/
def rscales (V : FVec Ideal S2x384x36864 .f32) : IVec S2x12x36864 8 := k0_pay91 (k0_pay89 V) k0_pay90

variable (c : Dev nD) (arg0 : Memref sig .tc .vmem S2x384x36864 .i8) (harg0 : arg0.IsWhole) (arg1 : Memref sig .tc .vmem S2x384x1152 .i8) (harg1 : arg1.IsWhole) (arg2 : Memref sig .tc .smem S2 .i32) (harg2 : arg2.IsWhole) (arg3 : Memref sig .tc .vmem S2x192x36864 .i8) (harg3 : arg3.IsWhole) (arg4 : Memref sig .tc .vmem S2x12x36864 .i8) (harg4 : arg4.IsWhole)
    (x0 : Vec Ideal S2x384x36864 .i8) (x1 : Vec Ideal S2x384x1152 .i8) (x2 : Vec Ideal S2 .i32)

def rdX : Vec Ideal S2x384x36864 .i8 := View.readAt (Elt Ideal) arg0.view (Rect.unit (s := S2x384x36864) ![0, 0, 0] S2x384x36864.size inb_S2x384x36864_S2x384x36864_0_0_0).toLoadRect (harg0.unread x0)
def rdS : Vec Ideal S2x384x1152 .i8 := View.readAt (Elt Ideal) arg1.view (Rect.unit (s := S2x384x1152) ![0, 0, 0] S2x384x1152.size inb_S2x384x1152_S2x384x1152_0_0_0).toLoadRect (harg1.unread x1)
def rdW : BitVec 32 := View.readAt (Elt Ideal) arg2.view (Rect.unit (s := S2) ![0] S1.size inb_S2_S1_0).toLoadRect (harg2.unread x2) (Shape.Idx.first (by decide))
def rdU : BitVec 32 := View.readAt (Elt Ideal) arg2.view (Rect.unit (s := S2) ![1] S1.size inb_S2_S1_1).toLoadRect (harg2.unread x2) (Shape.Idx.first (by decide))

set_option maxHeartbeats 4000000 in
theorem run_scales : (kernelRun0_A (F := Ideal) c arg0 harg0 arg1 harg1 arg2 harg2 arg3 harg3 arg4 harg4 x0 x1 x2).2.1
    = [⟨Rect.unit (s := S2x12x36864) ![0, 0, 0] S2x12x36864.size inb_S2x12x36864_S2x12x36864_0_0_0,
        rscales (rval (rdX arg0 harg0 x0) (rdS arg1 harg1 x1))⟩] := by
  sl_kernel_rfl

set_option maxHeartbeats 4000000 in
theorem run_codes : (kernelRun0_A (F := Ideal) c arg0 harg0 arg1 harg1 arg2 harg2 arg3 harg3 arg4 harg4 x0 x1 x2).1
    = [⟨Rect.unit (s := S2x192x36864) ![0, 0, 0] S2x192x36864.size inb_S2x192x36864_S2x192x36864_0_0_0,
        rcodes (rval (rdX arg0 harg0 x0) (rdS arg1 harg1 x1)) (rword (rdW arg2 harg2 x2) (rdU arg2 harg2 x2))⟩] := by
  sl_kernel_rfl

end Cert.ReferenceIdeal.Val

end
-- ==== Proof.Chunk.lean ====
/- What the kernel's idealisation computes in one pass of its loops, as vectors: the quad transposition, the scales, the
   Philox rounds, the greatest magnitudes and the two nibbles of a byte. -/
module

public import proofs.«01_k».proof.Proof.Gen.KernelIdeal.Skeleton

@[expose] public section

set_option maxRecDepth 16384

noncomputable section

namespace Cert.KernelIdeal.Chunk

open Cert.KernelIdeal
open Cert.KernelIdeal.Gen
open Idealize.ShloMosaic Idealize.SL.Sem

variable {F : FTy → Type} [FloatOps F]

/-- A register of 32-bit words. -/
abbrev W := IVec S8x128 32
/-- A word in every lane. -/
abbrev bc (x : BitVec 32) : W := broadcast S8x128 x

/-! ## The transposition of four registers' columns -/

/-- Which lanes have the given bit clear. -/
def lowLane (b : BitVec 32) : IVec S8x128 1 :=
  cmpi .eq (andi (iota .tc S8x128 32 [1] iota_S8x128_d1_w32) (bc b)) (bc 0#32)
/-- A register turned along the lanes. -/
def rot (n : BitVec 32) (x : W) : W := dynamicRotate 1 n none x rotates_S8x128_d1
/-- The pair's two new registers of one step of the transposition. -/
def evenOf (b : BitVec 32) (p q : W) : W := select (lowLane b) p (rot b q)
def oddOf (b n : BitVec 32) (p q : W) : W := select (lowLane b) (rot n p) q
/-- The four registers after both steps. -/
def qt0 (x0 x1 x2 x3 : W) : W := evenOf 2#32 (evenOf 1#32 x0 x1) (evenOf 1#32 x2 x3)
def qt1 (x0 x1 x2 x3 : W) : W := evenOf 2#32 (oddOf 1#32 127#32 x0 x1) (oddOf 1#32 127#32 x2 x3)
def qt2 (x0 x1 x2 x3 : W) : W := oddOf 2#32 126#32 (evenOf 1#32 x0 x1) (evenOf 1#32 x2 x3)
def qt3 (x0 x1 x2 x3 : W) : W := oddOf 2#32 126#32 (oddOf 1#32 127#32 x0 x1) (oddOf 1#32 127#32 x2 x3)

/-- A loaded block's bytes, four rows to a word. -/
def words (x : IVec S1x32x128 8) : W :=
  bitcast S8x128 32 (shapeCast S32x128 x shapeCasts_S1x32x128_S32x128) bitcasts_S32x128_w8_S8x128_w32
/-- A register's bytes, read as E4M3 numbers. -/
def decode (w : W) : FVec F S32x128 .bf16 :=
  extf .bf16 (bitcastToFloat .fp8e4m3 (bitcast S32x128 8 w bitcasts_S8x128_w32_S32x128_w8)) bitsLt_fp8e4m3_bf16

/-- The lane each lane takes its scale from. -/
def scaleLane (v58 : W) (arg8 : BitVec 32) : W := addi v58 (bc (Scalar.muli arg8 16#32))
def scaleIdx (v58 : W) (arg8 : BitVec 32) : W :=
  shapeCast S8x128 (shapeCast S8x128x1 (select (cmpi .slt (scaleLane v58 arg8) (bc 0#32)) (addi (scaleLane v58 arg8) (bc 128#32))
    (scaleLane v58 arg8)) shapeCasts_S8x128_S8x128x1) shapeCasts_S8x128x1_S8x128
/-- The scales of a group's rows, as bf16 powers of two. -/
def fscale (s : IVec S1x32x128 8) (v58 : W) (arg8 : BitVec 32) : FVec F S32x128 .bf16 :=
  truncf .bf16 (bitcastToFloat .f32 (shli (extui 32 (bitcast S32x128 8 (dynamicGather 1 (words s) (scaleIdx v58 arg8))
    bitcasts_S8x128_w32_S32x128_w8) natLt_8_32) (broadcast S32x128 23#32)) : FVec F S32x128 .f32) bitsLt_bf16_f32

/-! ## Philox -/

/-- The high and the low word of the product by the first multiplier, and by the second. -/
def hi0 (b : W) : W :=
  addi (muli (shrui b (bc 16#32)) (bc 53841#32)) (shrui (addi (subi (addi (muli b (bc 53841#32)) (muli (shrui b (bc 16#32)) (bc 766451539#32)))
    (shrui (muli b (bc 3528531795#32)) (bc 16#32))) (bc 65535#32)) (bc 16#32))
def lo0 (b : W) : W := muli b (bc 3528531795#32)
def hi1 (b : W) : W :=
  subi (subi b (muli (shrui b (bc 16#32)) (bc 12897#32))) (shrui (addi (addi (addi (muli b (bc 12897#32)) (muli (shrui b (bc 16#32)) (bc 3449778857#32)))
    (shrui (muli b (bc 3449720151#32)) (bc 16#32))) (bc 65535#32)) (bc 16#32))
def lo1 (b : W) : W := muli b (bc 3449720151#32)
/-- The first product, of a scalar. -/
def sHi0 (b : BitVec 32) : BitVec 32 :=
  Scalar.addi (Scalar.muli (Scalar.shrui b 16#32) 53841#32) (Scalar.shrui (Scalar.addi (Scalar.subi (Scalar.addi (Scalar.muli b 53841#32)
    (Scalar.muli (Scalar.shrui b 16#32) 766451539#32)) (Scalar.shrui (Scalar.muli b 3528531795#32) 16#32)) 65535#32) 16#32)
def sLo0 (b : BitVec 32) : BitVec 32 := Scalar.muli b 3528531795#32

/-- The four counters. -/
structure St where
  c0 : W
  c1 : W
  c2 : W
  c3 : W

/-- The ten pairs of keys. -/
structure Keys where
  (a0 a1 a2 a3 a4 a5 a6 a7 a8 a9 b0 b1 b2 b3 b4 b5 b6 b7 b8 b9 : BitVec 32)

/-- One round. -/
def round (k l : BitVec 32) (s : St) : St :=
  ⟨xori (hi1 s.c2) (xori s.c1 (bc k)), lo1 s.c2, xori (hi0 s.c0) (xori s.c3 (bc l)), lo0 s.c0⟩

/-- The counters after the first three rounds: the first two work on counters known to be zero or the same in every lane. -/
def start (K : Keys) (c : W) : St :=
  let a2 := xori (hi0 c) (bc K.b0)
  let b0 := xori (hi1 a2) (bc K.a1)
  let b2 := xori (lo0 c) (bc (Scalar.xori (sHi0 K.a0) K.b1))
  ⟨xori (hi1 b2) (xori (lo1 a2) (bc K.a2)), lo1 b2, xori (hi0 b0) (bc (Scalar.xori (sLo0 K.a0) K.b2)), lo0 b0⟩

/-- The ten rounds. -/
def philox (K : Keys) (c : W) : St :=
  round K.a9 K.b9 (round K.a8 K.b8 (round K.a7 K.b7 (round K.a6 K.b6 (round K.a5 K.b5 (round K.a4 K.b4 (round K.a3 K.b3 (start K c)))))))

/-! ## The greatest magnitude, its exponent, and the gain -/

def half0 (v : FVec F S32x128 .bf16) : FVec F S16x128 .bf16 := extractStridedSlice S16x128 ![0, 0] v slices_S32x128_o0_0_S16x128
def half1 (v : FVec F S32x128 .bf16) : FVec F S16x128 .bf16 := extractStridedSlice S16x128 ![16, 0] v slices_S32x128_o16_0_S16x128
def evens (v : FVec F S16x128 .bf16) : FVec F S8x128 .bf16 := rowsOfParity 0 S8x128 v bitcasts_S16x128_w16_S8x128_w32
def odds (v : FVec F S16x128 .bf16) : FVec F S8x128 .bf16 := rowsOfParity 1 S8x128 v bitcasts_S16x128_w16_S8x128_w32
def weave (a b : FVec F S8x128 .bf16) : FVec F S16x128 .bf16 := interleaveRows S16x128 a b bitcasts_S16x128_w16_S8x128_w32
def turn (n : BitVec 32) (a : FVec F S8x128 .bf16) : FVec F S8x128 .bf16 := dynamicRotate 0 n none a rotates_S8x128_d0
/-- The maximum with the rows `n` pairs away. -/
def fold (n : BitVec 32) (v : FVec F S16x128 .bf16) : FVec F S16x128 .bf16 :=
  maximumf (weave (evens v) (odds v)) (weave (turn n (evens v)) (turn n (odds v)))
/-- The greatest of the 32 rows, in every row. -/
def amax (av : FVec F S32x128 .bf16) : FVec F S8x128 .f32 :=
  let f := fold 1#32 (fold 2#32 (fold 4#32 (maximumf (half0 av) (half1 av))))
  maximumf (extf .f32 (odds f) bitsLt_bf16_f32) (extf .f32 (evens f) bitsLt_bf16_f32)

/-- One step of the search of the exponent. -/
def bitStep (b : BitVec 32) (m : FVec F S8x128 .f32) (e : W) : W :=
  select (cmpf .olt m (bitcastToFloat .f32 (shli (addi e (bc b)) (bc 23#32)))) e (addi e (bc b))
/-- The biased exponent. -/
def expo (m : FVec F S8x128 .f32) : W :=
  bitStep 1#32 m (bitStep 2#32 m (bitStep 4#32 m (bitStep 8#32 m (bitStep 16#32 m (bitStep 32#32 m (bitStep 64#32 m (bitStep 128#32 m (bc 0#32))))))))
/-- The factor that brings a group's magnitudes below twelve. -/
def gain (e : W) : FVec F S16x128 .bf16 :=
  bitcastToFloat .bf16 (bitcast S16x128 16 (subi (bc 2151710784#32) (muli e (bc 8388736#32))) bitcasts_S8x128_w32_S16x128_w16)

/-! ## The nibbles -/

def cst (b : BitVec 16) : FVec F S16x128 .bf16 := broadcast S16x128 (Scalar.ofBits .bf16 b)
/-- The magnitude on the axis of the nibbles. -/
def axis (a2 : FVec F S16x128 .bf16) : FVec F S16x128 .bf16 :=
  minimumf a2 (minimumf (addf (mulf a2 (cst 0x3F00#16)) (cst 0x4000#16)) (addf (mulf a2 (cst 0x3E80#16)) (cst 0x4080#16)))
/-- What the random number has to be below. -/
def thr (g : FVec F S16x128 .bf16) : FVec F S16x128 .bf16 := mulf (subf g (floor g)) (cst 0x4B80#16)
/-- Two nibbles to a word, as bf16 bits, -/
def nibs (v g : FVec F S16x128 .bf16) : W :=
  bitcast S8x128 32 (addi (fptosi 16 (addf (floor g) (select (cmpf .olt v (cst 0x0000#16)) (cst 0x4308#16) (cst 0x4300#16))))
    (broadcast S16x128 17024#16)) bitcasts_S16x128_w16_S8x128_w32
/-- and put side by side. -/
def side (n : W) : W := addi n (andi (shrui n (bc 12#32)) (bc 240#32))
/-- Rounding up where the random number is below the threshold. -/
def up (b : BitVec 32) (r : W) (t : FVec F S8x128 .bf16) (n : W) : W :=
  select (cmpf .olt (sitofp .f32 (shrui r (bc 8#32))) (extf .f32 t bitsLt_bf16_f32)) (addi n (bc b)) n
/-- The bytes of sixteen rows. -/
def bytes (v a2 : FVec F S16x128 .bf16) (r0 r1 : W) : W :=
  up 16#32 r1 (odds (thr (axis a2))) (up 1#32 r0 (evens (thr (axis a2))) (side (nibs v (axis a2))))

/-- A group: its values, exponents and bytes. -/
def expOf (v : FVec F S32x128 .bf16) : W := expo (amax (absf v))
def bytes0 (v : FVec F S32x128 .bf16) (r0 r1 : W) : W := bytes (half0 v) (mulf (half0 (absf v)) (gain (expOf v))) r0 r1
def bytes1 (v : FVec F S32x128 .bf16) (r0 r1 : W) : W := bytes (half1 v) (mulf (half1 (absf v)) (gain (expOf v))) r0 r1

/-! ## One pass of the inner loop -/

/-- What a pass reads and works with. -/
structure In where
  K : Keys
  v51 : W
  v58 : W
  arg8 : BitVec 32
  base : BitVec 32
  (x00 x01 x02 x03 x10 x11 x12 x13 : IVec S1x32x128 8)
  (s0 s1 : IVec S1x32x128 8)

/-- The random numbers of a pair of rows. -/
def rnd (I : In) (d : BitVec 32) : St := philox I.K (addi I.v51 (bc (Scalar.addi I.base d)))

/-- The values of the two groups, by word of the quad. -/
def f0 (I : In) : FVec F S32x128 .bf16 := fscale I.s0 I.v58 I.arg8
def f1 (I : In) : FVec F S32x128 .bf16 := fscale I.s1 I.v58 I.arg8
def v00 (I : In) : FVec F S32x128 .bf16 := mulf (decode (qt0 (words I.x00) (words I.x01) (words I.x02) (words I.x03))) (f0 I)
def v01 (I : In) : FVec F S32x128 .bf16 := mulf (decode (qt1 (words I.x00) (words I.x01) (words I.x02) (words I.x03))) (f0 I)
def v02 (I : In) : FVec F S32x128 .bf16 := mulf (decode (qt2 (words I.x00) (words I.x01) (words I.x02) (words I.x03))) (f0 I)
def v03 (I : In) : FVec F S32x128 .bf16 := mulf (decode (qt3 (words I.x00) (words I.x01) (words I.x02) (words I.x03))) (f0 I)
def v10 (I : In) : FVec F S32x128 .bf16 := mulf (decode (qt0 (words I.x10) (words I.x11) (words I.x12) (words I.x13))) (f1 I)
def v11 (I : In) : FVec F S32x128 .bf16 := mulf (decode (qt1 (words I.x10) (words I.x11) (words I.x12) (words I.x13))) (f1 I)
def v12 (I : In) : FVec F S32x128 .bf16 := mulf (decode (qt2 (words I.x10) (words I.x11) (words I.x12) (words I.x13))) (f1 I)
def v13 (I : In) : FVec F S32x128 .bf16 := mulf (decode (qt3 (words I.x10) (words I.x11) (words I.x12) (words I.x13))) (f1 I)

/-- Four registers of bytes in words, packed. -/
def pack (a b c d : W) : W :=
  bitcast S8x128 32 (trunci 8 (concatenate S32x128 0 [⟨S8x128, a⟩, ⟨S8x128, b⟩, ⟨S8x128, c⟩, ⟨S8x128, d⟩]
    concatenates_S8x128_S8x128_S8x128_S8x128_S32x128_d0 : IVec S32x128 32) natLt_8_32) bitcasts_S32x128_w8_S8x128_w32

/-- The packed bytes of a word of the quad. -/
def packed (v w : FVec F S32x128 .bf16) (r0 r1 r2 r3 r4 r5 r6 r7 : W) : W :=
  pack (bytes0 v r0 r1) (bytes1 v r2 r3) (bytes0 w r4 r5) (bytes1 w r6 r7)
def pk0 (F : FTy → Type) [FloatOps F] (I : In) : W := packed (F := F) (v00 I) (v10 I) (rnd I 0#32).c0 (rnd I 9216#32).c0 (rnd I 147456#32).c0 (rnd I 156672#32).c0 (rnd I 294912#32).c0 (rnd I 304128#32).c0 (rnd I 442368#32).c0 (rnd I 451584#32).c0
def pk1 (F : FTy → Type) [FloatOps F] (I : In) : W := packed (F := F) (v01 I) (v11 I) (rnd I 0#32).c1 (rnd I 9216#32).c1 (rnd I 147456#32).c1 (rnd I 156672#32).c1 (rnd I 294912#32).c1 (rnd I 304128#32).c1 (rnd I 442368#32).c1 (rnd I 451584#32).c1
def pk2 (F : FTy → Type) [FloatOps F] (I : In) : W := packed (F := F) (v02 I) (v12 I) (rnd I 0#32).c2 (rnd I 9216#32).c2 (rnd I 147456#32).c2 (rnd I 156672#32).c2 (rnd I 294912#32).c2 (rnd I 304128#32).c2 (rnd I 442368#32).c2 (rnd I 451584#32).c2
def pk3 (F : FTy → Type) [FloatOps F] (I : In) : W := packed (F := F) (v03 I) (v13 I) (rnd I 0#32).c3 (rnd I 9216#32).c3 (rnd I 147456#32).c3 (rnd I 156672#32).c3 (rnd I 294912#32).c3 (rnd I 304128#32).c3 (rnd I 442368#32).c3 (rnd I 451584#32).c3

/-- A register's bytes as a block to be stored. -/
def outBlk (w : W) : IVec S1x32x128 8 :=
  shapeCast S1x32x128 (bitcast S32x128 8 w bitcasts_S8x128_w32_S32x128_w8) shapeCasts_S32x128_S1x32x128
/-- The four blocks a pass stores. -/
def out0 (F : FTy → Type) [FloatOps F] (I : In) : IVec S1x32x128 8 := outBlk (qt0 (pk0 F I) (pk1 F I) (pk2 F I) (pk3 F I))
def out1 (F : FTy → Type) [FloatOps F] (I : In) : IVec S1x32x128 8 := outBlk (qt1 (pk0 F I) (pk1 F I) (pk2 F I) (pk3 F I))
def out2 (F : FTy → Type) [FloatOps F] (I : In) : IVec S1x32x128 8 := outBlk (qt2 (pk0 F I) (pk1 F I) (pk2 F I) (pk3 F I))
def out3 (F : FTy → Type) [FloatOps F] (I : In) : IVec S1x32x128 8 := outBlk (qt3 (pk0 F I) (pk1 F I) (pk2 F I) (pk3 F I))
/-- A register of exponents as a block to be stored. -/
def ebBlk (w : W) : IVec S1x1x8x128 32 := shapeCast S1x1x8x128 w shapeCasts_S8x128_S1x1x8x128

end Cert.KernelIdeal.Chunk

end
-- ==== Proof.Lane.lean ====
/- The layout of a pass's registers, lane by lane: what the transposition of a quad of registers, the packing of bytes into
   words and the stored blocks hold at a row and a lane. -/
module

public import proofs.«01_k».proof.Proof.Chunk
public import Idealize.ShloMosaic.Lib.BitcastFour
public import Idealize.ShloMosaic.Lib.ValueLayout
public import Idealize.ShloMosaic.Lib.ValueIdxCoords
public import Idealize.ShloMosaic.Lib.KernelVsHost
public import Idealize.ShloMosaic.Lib.Pipeline.Value

@[expose] public section

set_option maxRecDepth 16384

noncomputable section

namespace Cert.KernelIdeal.Chunk

open Cert.KernelIdeal
open Cert.KernelIdeal.Gen
open Idealize.ShloMosaic Idealize.ShloMosaic.ValueIdx Idealize.SL.Sem

variable {F : FTy → Type} [FloatOps F]

/-- Lane `l`, word `j`: the lane of the quad's register that the word comes from. -/
abbrev ln (l : Fin 128) (j : Nat) (hj : j < 4) : Fin 128 := ⟨l.val / 4 * 4 + j, by omega⟩

theorem lowLane_apply (b : BitVec 32) (r : Fin 8) (l : Fin 128) :
    lowLane b (ix2 r l) = BitVec.ofBool (decide (BitVec.ofNat 32 l.val &&& b = 0#32)) := by
  show BitVec.ofBool (iota .tc S8x128 32 [1] iota_S8x128_d1_w32 (ix2 r l) &&& b == 0#32) = _
  rw [iota_single_apply]
  rfl

theorem rot_apply (n : BitVec 32) (x : W) (r : Fin 8) (l l' : Fin 128) (h : l'.val = (l.val + 128 - n.toNat % 128) % 128) :
    rot n x (ix2 r l) = x (ix2 r l') := by
  have e : rot n x (ix2 r l) = x (ix2 r ⟨(l.val + 128 - n.toNat % 128) % 128, Nat.mod_lt _ (by omega)⟩) := by
    unfold rot dynamicRotate
    dsimp only
    congr 1
    funext a
    match a with
    | ⟨0, _⟩ => rfl
    | ⟨1, _⟩ => rfl
  rw [e]
  congr 2
  exact Fin.ext h.symm

theorem low1 (l : Fin 128) : decide (BitVec.ofNat 32 l.val &&& 1#32 = 0#32) = decide (l.val % 2 = 0) := by
  revert l; decide
theorem low2 (l : Fin 128) : decide (BitVec.ofNat 32 l.val &&& 2#32 = 0#32) = decide (l.val / 2 % 2 = 0) := by
  revert l; decide

theorem even1_apply (p q : W) (r : Fin 8) (l : Fin 128) :
    evenOf 1#32 p q (ix2 r l) = if l.val % 2 = 0 then p (ix2 r l) else q (ix2 r ⟨l.val / 2 * 2, by omega⟩) := by
  unfold evenOf
  rw [select_apply, lowLane_apply, low1]
  by_cases h : l.val % 2 = 0
  · simp [h, Scalar.select]
  · rw [rot_apply 1#32 q r l ⟨l.val / 2 * 2, by omega⟩ (by simp; omega)]
    simp [h, Scalar.select]
theorem odd1_apply (p q : W) (r : Fin 8) (l : Fin 128) :
    oddOf 1#32 127#32 p q (ix2 r l) = if l.val % 2 = 0 then p (ix2 r ⟨l.val / 2 * 2 + 1, by omega⟩) else q (ix2 r l) := by
  unfold oddOf
  rw [select_apply, lowLane_apply, low1]
  by_cases h : l.val % 2 = 0
  · rw [rot_apply 127#32 p r l ⟨l.val / 2 * 2 + 1, by omega⟩ (by simp; omega)]
    simp [h, Scalar.select]
  · simp [h, Scalar.select]
theorem even2_apply (p q : W) (r : Fin 8) (l : Fin 128) :
    evenOf 2#32 p q (ix2 r l) = if l.val / 2 % 2 = 0 then p (ix2 r l) else q (ix2 r ⟨l.val - 2, by omega⟩) := by
  unfold evenOf
  rw [select_apply, lowLane_apply, low2]
  by_cases h : l.val / 2 % 2 = 0
  · simp [h, Scalar.select]
  · rw [rot_apply 2#32 q r l ⟨l.val - 2, by omega⟩ (by simp; omega)]
    simp [h, Scalar.select]
theorem odd2_apply (p q : W) (r : Fin 8) (l : Fin 128) :
    oddOf 2#32 126#32 p q (ix2 r l) = if l.val / 2 % 2 = 0 then p (ix2 r ⟨(l.val + 2) % 128, by omega⟩) else q (ix2 r l) := by
  unfold oddOf
  rw [select_apply, lowLane_apply, low2]
  by_cases h : l.val / 2 % 2 = 0
  · rw [rot_apply 126#32 p r l ⟨(l.val + 2) % 128, by omega⟩ (by simp)]
    simp [h, Scalar.select]
  · simp [h, Scalar.select]

/-- The register of the quad by its number. -/
def pick (m : Nat) {α : Type} (x0 x1 x2 x3 : α) : α := if m = 0 then x0 else if m = 1 then x1 else if m = 2 then x2 else x3

theorem ix2_congr {x : W} {r : Fin 8} {l l' : Fin 128} (h : l.val = l'.val) : x (ix2 r l) = x (ix2 r l') := by
  rw [Fin.ext h]

theorem qt0_apply (x0 x1 x2 x3 : W) (r : Fin 8) (l : Fin 128) :
    qt0 x0 x1 x2 x3 (ix2 r l) = (pick (l.val % 4) x0 x1 x2 x3) (ix2 r (ln l 0 (by omega))) := by
  have hl := l.isLt
  unfold qt0 pick
  simp only [even1_apply, even2_apply, odd1_apply, odd2_apply]
  split_ifs <;> first
    | (exfalso; omega)
    | (apply ix2_congr; dsimp only; omega)
theorem qt1_apply (x0 x1 x2 x3 : W) (r : Fin 8) (l : Fin 128) :
    qt1 x0 x1 x2 x3 (ix2 r l) = (pick (l.val % 4) x0 x1 x2 x3) (ix2 r (ln l 1 (by omega))) := by
  have hl := l.isLt
  unfold qt1 pick
  simp only [even1_apply, even2_apply, odd1_apply, odd2_apply]
  split_ifs <;> first
    | (exfalso; omega)
    | (apply ix2_congr; dsimp only; omega)
theorem qt2_apply (x0 x1 x2 x3 : W) (r : Fin 8) (l : Fin 128) :
    qt2 x0 x1 x2 x3 (ix2 r l) = (pick (l.val % 4) x0 x1 x2 x3) (ix2 r (ln l 2 (by omega))) := by
  have hl := l.isLt
  unfold qt2 pick
  simp only [even1_apply, even2_apply, odd1_apply, odd2_apply]
  split_ifs <;> first
    | (exfalso; omega)
    | (apply ix2_congr; dsimp only; omega)
theorem qt3_apply (x0 x1 x2 x3 : W) (r : Fin 8) (l : Fin 128) :
    qt3 x0 x1 x2 x3 (ix2 r l) = (pick (l.val % 4) x0 x1 x2 x3) (ix2 r (ln l 3 (by omega))) := by
  have hl := l.isLt
  unfold qt3 pick
  simp only [even1_apply, even2_apply, odd1_apply, odd2_apply]
  split_ifs <;> first
    | (exfalso; omega)
    | (apply ix2_congr; dsimp only; omega)

/-! ## Bytes of a word -/

/-- A register read as bytes. -/
theorem bytes_apply (w : W) (ρ : Fin 32) (l : Fin 128) :
    bitcast S32x128 8 w bitcasts_S8x128_w32_S32x128_w8 (ix2 ρ l)
      = (w (ix2 ⟨ρ.val / 4, by omega⟩ l)).extractLsb' (8 * (ρ.val % 4)) 8 := by
  apply BitVec.eq_of_getLsbD_eq
  intro q hq
  rw [bitcast_getLsbD w _ _ q hq (by decide), BitVec.getLsbD_extractLsb']
  have er : (S32x128).row (ix2 ρ l) = ρ.val := rfl
  have e1 : ((S32x128).row (ix2 ρ l) * 8 + q) / 32 = ρ.val / 4 := by rw [er]; omega
  have e2 : ((S32x128).row (ix2 ρ l) * 8 + q) % 32 = 8 * (ρ.val % 4) + q := by rw [er]; omega
  simp only [hq, decide_true, Bool.true_and]
  rw [Shape.Bitcasts.srcIdx_congr _ _ e1 _ (fun a ha => by
    match a, ha with
    | ⟨0, _⟩, _ => show ρ.val / 4 < 8; omega), e2]
  congr 2
  funext c
  match c with
  | ⟨0, _⟩ => exact Fin.ext (Shape.Bitcasts.srcIdx_row _ _ _ _ ⟨0, Nat.zero_lt_two⟩ rfl)
  | ⟨1, _⟩ => exact Fin.ext (Shape.Bitcasts.srcIdx_other _ _ _ _ ⟨1, Nat.one_lt_two⟩ (by show ¬ 1 + 2 = 2; omega))

/-- A byte of four bytes' word. -/
theorem word_byte (x : IVec S32x128 8) (ρ : Fin 32) (r : Fin 8) (l : Fin 128) (hr : r.val = ρ.val / 4) :
    (bitcast S8x128 32 x bitcasts_S32x128_w8_S8x128_w32 (ix2 r l)).extractLsb' (8 * (ρ.val % 4)) 8 = x (ix2 ρ l) := by
  apply BitVec.eq_of_getLsbD_eq
  intro q hq
  rw [BitVec.getLsbD_extractLsb']
  simp only [hq, decide_true, Bool.true_and]
  rw [bitcast_8_32_getLsbD_ix2 x _ r l (8 * (ρ.val % 4) + q) (by omega) ρ (by omega)]
  congr 1
  omega

theorem words_byte (x : IVec S1x32x128 8) (ρ : Fin 32) (l : Fin 128) :
    (words x (ix2 ⟨ρ.val / 4, by omega⟩ l)).extractLsb' (8 * (ρ.val % 4)) 8 = x (ix3 0 ρ l) := by
  unfold words
  rw [word_byte _ ρ _ l rfl, shapeCast_1ab_ab_apply]

theorem pick_ap (m : Nat) {α β : Type} (f : α → β) (x0 x1 x2 x3 : α) : f (pick m x0 x1 x2 x3) = pick m (f x0) (f x1) (f x2) (f x3) := by
  unfold pick; split_ifs <;> rfl

/-- What a lane of the quad's values is. -/
def dec8 (F : FTy → Type) [FloatOps F] (b : BitVec 8) : F .bf16 := FloatOps.extf .bf16 bitsLt_fp8e4m3_bf16 (FloatOps.ofBits .fp8e4m3 b)
def scl (F : FTy → Type) [FloatOps F] (b : BitVec 8) : F .bf16 :=
  FloatOps.truncf .bf16 bitsLt_bf16_f32 (FloatOps.ofBits .f32 (b.setWidth 32 <<< 23))
/-- An element's value: its code times its scale. -/
def val (F : FTy → Type) [FloatOps F] (x s : BitVec 8) : F .bf16 := FloatOps.mulf (dec8 F x) (scl F s)

theorem decode_apply (w : W) (ρ : Fin 32) (l : Fin 128) :
    decode (F := F) w (ix2 ρ l) = dec8 F ((w (ix2 ⟨ρ.val / 4, by omega⟩ l)).extractLsb' (8 * (ρ.val % 4)) 8) := by
  rw [← bytes_apply]; rfl

theorem dec_of_pick (y x0 x1 x2 x3 : W) (a0 a1 a2 a3 : IVec S1x32x128 8) (ρ : Fin 32) (l l' : Fin 128) (m : Nat)
    (e : ∀ r, y (ix2 r l) = (pick m (words a0) (words a1) (words a2) (words a3)) (ix2 r l')) :
    decode (F := F) y (ix2 ρ l) = dec8 F ((pick m a0 a1 a2 a3) (ix3 0 ρ l')) := by
  rw [decode_apply, e]
  congr 1
  unfold pick
  split_ifs <;> exact words_byte _ ρ l'

theorem shl23 (b : BitVec 32) : IntOp.shli .vector b 23#32 = b <<< 23 := by
  unfold IntOp.shli; rw [if_pos (by decide)]; rfl

theorem notNeg (n : Fin 128) : (BitVec.ofNat 32 n.val).slt 0#32 = false := by revert n; decide

theorem scaleIdx_apply (v58 : W) (arg8 : BitVec 32) (r : Fin 8) (l : Fin 128) (n : Nat)
    (h : v58 (ix2 r l) + arg8 * 16#32 = BitVec.ofNat 32 n) (hn : n < 128) :
    scaleIdx v58 arg8 (ix2 r l) = BitVec.ofNat 32 n := by
  unfold scaleIdx
  rw [shapeCast_apply _ _ (ix2 r l) (ix3 r l 0) (by rw [Shape.rowMajor_val_three, Shape.rowMajor_val_two]; simp),
    shapeCast_apply _ _ (ix3 r l 0) (ix2 r l) (by rw [Shape.rowMajor_val_three, Shape.rowMajor_val_two]; simp),
    select_apply]
  have e : scaleLane v58 arg8 (ix2 r l) = BitVec.ofNat 32 n := h
  have hc : cmpi .slt (scaleLane v58 arg8) (bc 0#32) (ix2 r l) = 0#1 := by
    show BitVec.ofBool ((scaleLane v58 arg8 (ix2 r l)).slt 0#32) = 0#1
    rw [e, notNeg ⟨n, hn⟩]; rfl
  rw [hc, select_zero, e]

theorem fscale_apply (s : IVec S1x32x128 8) (v58 : W) (arg8 : BitVec 32) (ρ : Fin 32) (l : Fin 128) (n : Fin 128)
    (h : v58 (ix2 ⟨ρ.val / 4, by omega⟩ l) + arg8 * 16#32 = BitVec.ofNat 32 n.val) :
    fscale (F := F) s v58 arg8 (ix2 ρ l) = scl F (s (ix3 0 ρ n)) := by
  show FloatOps.truncf .bf16 bitsLt_bf16_f32 (FloatOps.ofBits .f32 (IntOp.shli .vector
    ((bitcast S32x128 8 (dynamicGather 1 (words s) (scaleIdx v58 arg8)) bitcasts_S8x128_w32_S32x128_w8 (ix2 ρ l)).setWidth 32) 23#32)) = _
  rw [shl23, bytes_apply]
  have e : dynamicGather 1 (words s) (scaleIdx v58 arg8) (ix2 ⟨ρ.val / 4, by omega⟩ l) = words s (ix2 ⟨ρ.val / 4, by omega⟩ n) := by
    unfold dynamicGather
    dsimp only
    congr 1
    funext a
    match a with
    | ⟨0, _⟩ => rfl
    | ⟨1, _⟩ =>
      apply Fin.ext
      show (scaleIdx v58 arg8 (ix2 ⟨ρ.val / 4, _⟩ l)).toNat % 128 = n.val
      rw [scaleIdx_apply v58 arg8 _ _ n.val h n.isLt, BitVec.toNat_ofNat]
      omega
  rw [e, words_byte]
  rfl

/-! ## Packing -/

theorem pack_byte (a b c d : W) (ρ : Fin 32) (r : Fin 8) (l : Fin 128) (hr : r.val = ρ.val / 4) :
    (pack a b c d (ix2 r l)).extractLsb' (8 * (ρ.val % 4)) 8
      = ((pick (ρ.val / 8) a b c d) (ix2 ⟨ρ.val % 8, by omega⟩ l)).setWidth 8 := by
  unfold pack
  rw [word_byte _ ρ r l hr]
  show BitVec.setWidth 8 (concatenate S32x128 0 _ _ (ix2 ρ l)) = _
  congr 1
  have h4 : ρ.val / 8 = 0 ∨ ρ.val / 8 = 1 ∨ ρ.val / 8 = 2 ∨ ρ.val / 8 = 3 := by omega
  have main : ∀ (k : Nat) (hk : k < 4) (x : W) (hx : [(⟨S8x128, a⟩ : (s : Shape) × (s.Idx → BitVec 32)), ⟨S8x128, b⟩, ⟨S8x128, c⟩, ⟨S8x128, d⟩][k] = ⟨S8x128, x⟩),
      ρ.val / 8 = k → concatenate S32x128 0 [⟨S8x128, a⟩, ⟨S8x128, b⟩, ⟨S8x128, c⟩, ⟨S8x128, d⟩]
        concatenates_S8x128_S8x128_S8x128_S8x128_S32x128_d0 (ix2 ρ l) = x (ix2 ⟨ρ.val % 8, by omega⟩ l) := by
    intro k hk x hx e
    refine concatenate_apply_piece 0 [⟨S8x128, a⟩, ⟨S8x128, b⟩, ⟨S8x128, c⟩, ⟨S8x128, d⟩] _ (ix2 ρ l) k hk S8x128 x hx rfl (8 * k) ?_ _ ?_ ?_
    · interval_cases k <;> rfl
    · intro b hb
      match b with
      | ⟨0, _⟩ => exact absurd rfl hb
      | ⟨1, _⟩ => rfl
    · show 8 * k + ρ.val % 8 = ρ.val
      omega
  rcases h4 with h | h | h | h <;> rw [h]
  · exact main 0 (by omega) a rfl h
  · exact main 1 (by omega) b rfl h
  · exact main 2 (by omega) c rfl h
  · exact main 3 (by omega) d rfl h

theorem outBlk_apply (w : W) (u : Fin 1) (ρ : Fin 32) (l : Fin 128) :
    outBlk w (ix3 u ρ l) = (w (ix2 ⟨ρ.val / 4, by omega⟩ l)).extractLsb' (8 * (ρ.val % 4)) 8 := by
  unfold outBlk
  rw [shapeCast_ab_1ab_apply, bytes_apply]

theorem ebBlk_apply (w : W) (u v : Fin 1) (r : Fin 8) (l : Fin 128) : ebBlk w (ix4 u v r l) = w (ix2 r l) := by
  unfold ebBlk
  rw [shapeCast_apply _ _ (ix4 u v r l) (ix2 r l) (by
    rw [Shape.rowMajor_val_four, Shape.rowMajor_val_two]
    show r.val * 128 + l.val = ((u.val * 1 + v.val) * 8 + r.val) * 128 + l.val
    omega)]

end Cert.KernelIdeal.Chunk

end
-- ==== Proof.Mul.lean ====
/- The high word of a 32-bit product by a constant, from 32-bit products only. -/
module

public import proofs.«01_k».proof.Proof.Lane

@[expose] public section

namespace Cert.KernelIdeal.Chunk

abbrev M0 : Nat := 3528531795
abbrev M1 : Nat := 3449720151

/-- The high word of a product. -/
def mulHi (M : Nat) (b : BitVec 32) : BitVec 32 := BitVec.ofNat 32 (b.toNat * M / 4294967296)

theorem ofNat_wrap (B k : Nat) : BitVec.ofNat 32 (B + 4294967296 * k) = BitVec.ofNat 32 B := by
  apply BitVec.eq_of_toNat_eq
  rw [BitVec.toNat_ofNat, BitVec.toNat_ofNat]
  exact Nat.add_mul_mod_self_left B (2 ^ 32) k

theorem shr_ofNat (N : Nat) (h : N < 4294967296) : BitVec.ofNat 32 N >>> 16 = BitVec.ofNat 32 (N / 65536) := by
  apply BitVec.eq_of_toNat_eq
  have h' : N / 65536 < 2 ^ 32 := lt_of_le_of_lt (Nat.div_le_self _ _) h
  rw [BitVec.toNat_ushiftRight, BitVec.toNat_ofNat, BitVec.toNat_ofNat, Nat.mod_eq_of_lt h, Nat.mod_eq_of_lt h', Nat.shiftRight_eq_div_pow]

theorem split16 (n K : Nat) : ∃ t s, s < K + 1 ∧ n = (K + 1) * t + s :=
  ⟨n / (K + 1), n % (K + 1), Nat.mod_lt _ (Nat.succ_pos K), (Nat.div_add_mod n (K + 1)).symm⟩

theorem sub_then (a b c d : BitVec 32) (h : a + c = d + b) : a - b + c = d := by bv_omega
theorem sub_sub_of (a b c d : BitVec 32) (h : a = d + (b + c)) : a - b - c = d := by bv_omega

theorem quot (K t s : Nat) (hK : 0 < K) (hs : s < K) : (K * t + s) / K = t := by
  rw [Nat.mul_add_div hK, Nat.div_eq_of_lt hs, Nat.add_zero]

theorem mulHi0_eq (x : BitVec 32) :
    (x >>> 16) * 53841#32 + ((x * 53841#32 + (x >>> 16) * 766451539#32 - ((x * 3528531795#32) >>> 16) + 65535#32) >>> 16) = mulHi M0 x := by
  have hx : x.toNat < 4294967296 := x.isLt
  have ex : x = BitVec.ofNat 32 x.toNat := by apply BitVec.eq_of_toNat_eq; simp
  unfold mulHi M0
  generalize x.toNat = n at *
  subst ex
  obtain ⟨h, l, hl, en⟩ := split16 n 65535
  obtain ⟨c, d, hd, ec⟩ := split16 (8019 * l) 65535
  obtain ⟨t, s, hs, et⟩ := split16 (53841 * l + 8019 * h + c) 65535
  norm_num at hl hd hs en ec et
  have hsh : BitVec.ofNat 32 n >>> 16 = BitVec.ofNat 32 h := by rw [shr_ofNat n hx, en, quot 65536 h l (by norm_num) hl]
  have hlo : BitVec.ofNat 32 n * 3528531795#32 = BitVec.ofNat 32 (65536 * s + d) := by
    rw [← BitVec.ofNat_mul, ← ofNat_wrap (65536 * s + d) (53841 * h + t)]
    congr 1; rw [en]; omega
  have hls : (BitVec.ofNat 32 n * 3528531795#32) >>> 16 = BitVec.ofNat 32 s := by
    rw [hlo, shr_ofNat _ (by omega), quot 65536 s d (by norm_num) hd]
  have hu : BitVec.ofNat 32 n * 53841#32 + BitVec.ofNat 32 h * 766451539#32 - BitVec.ofNat 32 s + 65535#32
      = BitVec.ofNat 32 (65536 * t + (65535 - c)) := by
    have e : BitVec.ofNat 32 n * 53841#32 + BitVec.ofNat 32 h * 766451539#32 + 65535#32 = BitVec.ofNat 32 (65536 * t + (65535 - c)) + BitVec.ofNat 32 s := by
      rw [← BitVec.ofNat_mul, ← BitVec.ofNat_mul, ← BitVec.ofNat_add, ← BitVec.ofNat_add, ← BitVec.ofNat_add, ← ofNat_wrap (65536 * t + (65535 - c) + s) h]
      congr 1; rw [en]; omega
    exact sub_then _ _ _ _ e
  have hhi : n * 3528531795 / 4294967296 = 53841 * h + t := by
    have e : n * 3528531795 = 4294967296 * (53841 * h + t) + (65536 * s + d) := by rw [en]; omega
    rw [e, quot _ _ _ (by norm_num) (by omega)]
  rw [hsh, hls, hu, shr_ofNat _ (by omega), quot 65536 t (65535 - c) (by norm_num) (by omega), hhi, ← BitVec.ofNat_mul, ← BitVec.ofNat_add]
  congr 1; omega

theorem mulHi1_core (n h l q t' r lo : Nat) (hx : n < 4294967296) (hl : l < 65536) (en : n = 65536 * h + l) (hq : q < 65536) (hr : r < 65536) (hlo : lo < 65536)
    (e : n * 3449720151 = 4294967296 * (n - 12897 * h - t') + (65536 * q + lo)) (hle : 12897 * h + t' ≤ n)
    (eu : 12897 * l + 29353 * h + q + 65535 = 65536 * t' + r) (ht : t' < 65536) :
      BitVec.ofNat 32 n - BitVec.ofNat 32 h * 12897#32 - ((BitVec.ofNat 32 n * 12897#32 + BitVec.ofNat 32 h * 3449778857#32
        + ((BitVec.ofNat 32 n * 3449720151#32) >>> 16) + 65535#32) >>> 16) = BitVec.ofNat 32 (n * 3449720151 / 4294967296) := by
  have hlw : BitVec.ofNat 32 n * 3449720151#32 = BitVec.ofNat 32 (65536 * q + lo) := by
    rw [← BitVec.ofNat_mul, ← ofNat_wrap (65536 * q + lo) (n - 12897 * h - t'), e, add_comm]
  have hls : (BitVec.ofNat 32 n * 3449720151#32) >>> 16 = BitVec.ofNat 32 q := by
    rw [hlw, shr_ofNat _ (by omega), quot 65536 q lo (by norm_num) hlo]
  have hu : BitVec.ofNat 32 n * 12897#32 + BitVec.ofNat 32 h * 3449778857#32 + BitVec.ofNat 32 q + 65535#32
      = BitVec.ofNat 32 (65536 * t' + r) := by
    have e3 : n * 12897 + h * 3449778857 + q + 65535 = 65536 * t' + r + 4294967296 * h := by clear * - en eu; linarith
    rw [← BitVec.ofNat_mul, ← BitVec.ofNat_mul, ← BitVec.ofNat_add, ← BitVec.ofNat_add, ← BitVec.ofNat_add]
    exact (congrArg _ e3).trans (ofNat_wrap _ _)
  have e4 : n * 3449720151 / 4294967296 = n - 12897 * h - t' := by
    have e6 : 65536 * q + lo < 4294967296 := by clear * - hq hlo; omega
    rw [e, quot _ _ _ (by norm_num) e6]
  rw [hls, hu, shr_ofNat _ (by omega), quot 65536 t' r (by norm_num) hr, e4, ← BitVec.ofNat_mul]
  apply sub_sub_of
  have e5 : n = (n - 12897 * h - t') + (h * 12897 + t') := by omega
  rw [← BitVec.ofNat_add, ← BitVec.ofNat_add, ← e5]

theorem hi1_le (h l c d t s : Nat) (hd : d < 65536) (hs : s < 65536) (ec : 29353 * l = 65536 * c + d)
    (et : 12897 * l + 29353 * h + c = 65536 * t + s) : 12897 * h + t ≤ 65536 * h + l := by omega
theorem hi1_lt (h l c d t s : Nat) (hd : d < 65536) (hs : s < 65536) (ec : 29353 * l = 65536 * c + d)
    (et : 12897 * l + 29353 * h + c = 65536 * t + s) (hn : ¬(s = 0 ∧ d = 0)) : 12897 * h + t < 65536 * h + l := by
  have h1 := hi1_le h l c d t s hd hs ec et
  by_contra h2
  have h3 : 12897 * h + t = 65536 * h + l := by omega
  have h4 : h = 0 := by omega
  subst h4
  omega
theorem hi1_prod (h l c d t s : Nat) (ec : 29353 * l = 65536 * c + d)
    (et : 12897 * l + 29353 * h + c = 65536 * t + s) :
    (65536 * h + l) * 3449720151 + (4294967296 * (12897 * h + t) + (65536 * s + d)) = 4294967296 * (65536 * h + l) := by omega
theorem hi1_prod0 (P a n : Nat) (h : P + (4294967296 * a + (65536 * 0 + 0)) = 4294967296 * n) (ha : a ≤ n) :
    P = 4294967296 * (n - a) := by
  obtain ⟨m, rfl⟩ := Nat.exists_eq_add_of_le ha
  rw [show a + m - a = m by omega]
  omega
theorem sub_a (s : Nat) (h : s < 65536) (h1 : 1 ≤ s) : 4294967296 - (65536 * s + 0) = 65536 * (65536 - s) + 0 := by omega
theorem sub_b (s d : Nat) (h : s < 65536) (h1 : d < 65536) : 4294967296 - (65536 * s + d) = 65536 * (65535 - s) + (65536 - d) := by omega
theorem hi1_prod' (P a n q : Nat) (h : P + (4294967296 * a + q) = 4294967296 * n) (hq : q < 4294967296) (hq0 : 0 < q) (ha : a < n) :
    P = 4294967296 * (n - a - 1) + (4294967296 - q) := by
  obtain ⟨m, rfl⟩ := Nat.exists_eq_add_of_lt ha
  rw [show a + m + 1 - a - 1 = m by omega]
  omega

theorem mulHi1_eq (x : BitVec 32) :
    x - (x >>> 16) * 12897#32 - ((x * 12897#32 + (x >>> 16) * 3449778857#32 + ((x * 3449720151#32) >>> 16) + 65535#32) >>> 16) = mulHi M1 x := by
  have hx : x.toNat < 4294967296 := x.isLt
  have ex : x = BitVec.ofNat 32 x.toNat := by apply BitVec.eq_of_toNat_eq; simp
  unfold mulHi M1
  generalize x.toNat = n at *
  subst ex
  obtain ⟨h, l, hl, en⟩ := split16 n 65535
  obtain ⟨c, d, hd, ec⟩ := split16 (29353 * l) 65535
  obtain ⟨t, s, hs, et⟩ := split16 (12897 * l + 29353 * h + c) 65535
  norm_num at hl hd hs en ec et
  have hsh : BitVec.ofNat 32 n >>> 16 = BitVec.ofNat 32 h := by rw [shr_ofNat n hx, en, quot 65536 h l (by norm_num) hl]
  have hh : h < 65536 := by clear ec et; omega
  have hcc : c ≤ 29352 := by clear et; omega
  have htt : t ≤ 42250 := by clear ec; omega
  have e2 := hi1_prod h l c d t s ec et
  rw [hsh]
  by_cases hs0 : s = 0 ∧ d = 0
  · have l1 := hi1_le h l c d t s hd hs ec et
    obtain ⟨hs0, hd0⟩ := hs0
    subst hs0 hd0
    rw [← en] at l1 e2
    have e3 : n * 3449720151 = 4294967296 * (n - 12897 * h - t) + (65536 * 0 + 0) := by
      have e5 := hi1_prod0 _ _ _ e2 l1
      rw [show n - (12897 * h + t) = n - 12897 * h - t by clear * -; omega] at e5
      exact e5
    exact mulHi1_core n h l 0 t (65535 - c) 0 hx hl en (by norm_num) (by clear * -; omega) (by norm_num) e3 l1 (by clear * - et hcc; omega) (by clear * - htt; omega)
  · have l1 := hi1_lt h l c d t s hd hs ec et hs0
    rw [← en] at l1 e2
    have e3 := hi1_prod' _ _ _ _ e2 (by clear * - hs hd; omega) (by clear * - hs0; omega) l1
    have e4 : n - (12897 * h + t) - 1 = n - 12897 * h - (t + 1) := by clear * -; omega
    rw [e4] at e3
    have l2 : 12897 * h + (t + 1) ≤ n := l1
    have hs0' : d = 0 → ¬ s = 0 := fun a b => hs0 ⟨b, a⟩
    clear e2 hs0
    by_cases hd0 : d = 0
    · subst hd0
      have hs1 : 1 ≤ s := Nat.pos_of_ne_zero (hs0' rfl)
      exact mulHi1_core n h l (65536 - s) (t + 1) (65535 - c) 0 hx hl en (by clear * - hs1; omega) (by clear * -; omega) (by norm_num)
        (e3.trans (congrArg (fun z => 4294967296 * (n - 12897 * h - (t + 1)) + z) (sub_a s hs hs1))) l2 (by clear * - et hcc hs; omega) (by clear * - htt; omega)
    · exact mulHi1_core n h l (65535 - s) (t + 1) (65534 - c) (65536 - d) hx hl en (by clear * -; omega) (by clear * -; omega) (by clear * - hd0; omega)
        (e3.trans (congrArg (fun z => 4294967296 * (n - 12897 * h - (t + 1)) + z) (sub_b s d hs hd))) l2 (by clear * - et hcc hs; omega) (by clear * - htt; omega)

end Cert.KernelIdeal.Chunk
-- ==== Proof.Scalar.lean ====
/- What a pass's registers hold, element by element: the Philox words of a counter, the greatest magnitude of a group, and the
   byte of a pair of values. -/
module

public import proofs.«01_k».proof.Proof.Mul

@[expose] public section

set_option maxRecDepth 16384

noncomputable section

namespace Cert.KernelIdeal.Chunk

open Cert.KernelIdeal
open Cert.KernelIdeal.Gen
open Idealize.ShloMosaic Idealize.ShloMosaic.ValueIdx Idealize.SL.Sem

variable {F : FTy → Type} [FloatOps F]

/-! ## Philox -/

/-- Four counters. -/
structure S4 where
  c0 : BitVec 32
  c1 : BitVec 32
  c2 : BitVec 32
  c3 : BitVec 32

/-- One Philox round. -/
def sround (k l : BitVec 32) (s : S4) : S4 :=
  ⟨mulHi M1 s.c2 ^^^ s.c1 ^^^ k, s.c2 * 3449720151#32, mulHi M0 s.c0 ^^^ s.c3 ^^^ l, s.c0 * 3528531795#32⟩

/-- The ten rounds. -/
def sphilox (K : Keys) (c : BitVec 32) : S4 :=
  sround K.a9 K.b9 (sround K.a8 K.b8 (sround K.a7 K.b7 (sround K.a6 K.b6 (sround K.a5 K.b5 (sround K.a4 K.b4 (sround K.a3 K.b3
    (sround K.a2 K.b2 (sround K.a1 K.b1 (sround K.a0 K.b0 ⟨c, 0#32, 0#32, 0#32⟩)))))))))

theorem shr_vec16 (b : BitVec 32) : IntOp.shrui .vector b 16#32 = b >>> 16 := by
  unfold IntOp.shrui; rw [if_pos (by decide)]; rfl
theorem shr_sc16 (b : BitVec 32) : IntOp.shrui .scalar b 16#32 = b >>> 16 := by
  unfold IntOp.shrui; rw [if_pos (by decide)]; rfl

theorem hi0_apply (b : W) (i : S8x128.Idx) : hi0 b i = mulHi M0 (b i) := by
  rw [← mulHi0_eq]
  show IntOp.addi (IntOp.muli (IntOp.shrui .vector (b i) 16#32) 53841#32) (IntOp.shrui .vector (IntOp.addi (IntOp.subi (IntOp.addi (IntOp.muli (b i) 53841#32) (IntOp.muli (IntOp.shrui .vector (b i) 16#32) 766451539#32))
    (IntOp.shrui .vector (IntOp.muli (b i) 3528531795#32) 16#32)) 65535#32) 16#32) = _
  simp only [shr_vec16]; rfl
theorem hi1_apply (b : W) (i : S8x128.Idx) : hi1 b i = mulHi M1 (b i) := by
  rw [← mulHi1_eq]
  show IntOp.subi (IntOp.subi (b i) (IntOp.muli (IntOp.shrui .vector (b i) 16#32) 12897#32)) (IntOp.shrui .vector (IntOp.addi (IntOp.addi (IntOp.addi (IntOp.muli (b i) 12897#32) (IntOp.muli (IntOp.shrui .vector (b i) 16#32) 3449778857#32))
    (IntOp.shrui .vector (IntOp.muli (b i) 3449720151#32) 16#32)) 65535#32) 16#32) = _
  simp only [shr_vec16]; rfl
theorem sHi0_eq (b : BitVec 32) : sHi0 b = mulHi M0 b := by
  rw [← mulHi0_eq]
  show IntOp.addi (IntOp.muli (IntOp.shrui .scalar b 16#32) 53841#32) (IntOp.shrui .scalar (IntOp.addi (IntOp.subi (IntOp.addi (IntOp.muli b 53841#32) (IntOp.muli (IntOp.shrui .scalar b 16#32) 766451539#32))
    (IntOp.shrui .scalar (IntOp.muli b 3528531795#32) 16#32)) 65535#32) 16#32) = _
  simp only [shr_sc16]; rfl

/-- The four words at an index. -/
def St.at (s : St) (i : S8x128.Idx) : S4 := ⟨s.c0 i, s.c1 i, s.c2 i, s.c3 i⟩

theorem round_at (k l : BitVec 32) (s : St) (i : S8x128.Idx) : (round k l s).at i = sround k l (s.at i) := by
  show S4.mk (IntOp.xori (hi1 s.c2 i) (IntOp.xori (s.c1 i) k)) (IntOp.muli (s.c2 i) _) (IntOp.xori (hi0 s.c0 i) (IntOp.xori (s.c3 i) l)) (IntOp.muli (s.c0 i) _) = _
  rw [hi0_apply, hi1_apply]
  simp only [sround, IntOp.xori, BitVec.xor_assoc]
  rfl

theorem mulHi_zero (M : Nat) : mulHi M 0#32 = 0#32 := by simp [mulHi]

theorem start_at (K : Keys) (c : W) (i : S8x128.Idx) :
    (start K c).at i = sround K.a2 K.b2 (sround K.a1 K.b1 (sround K.a0 K.b0 ⟨c i, 0#32, 0#32, 0#32⟩)) := by
  have e2 : ∀ j, xori (hi0 c) (bc K.b0) j = mulHi M0 (c j) ^^^ K.b0 := fun j => by
    show hi0 c j ^^^ K.b0 = _; rw [hi0_apply]
  show S4.mk (hi1 _ i ^^^ (lo1 _ i ^^^ K.a2)) (lo1 _ i) (hi0 _ i ^^^ _) (lo0 _ i) = _
  rw [hi1_apply, hi0_apply]
  show S4.mk (mulHi M1 ((c i * 3528531795#32) ^^^ (sHi0 K.a0 ^^^ K.b1)) ^^^ (((hi0 c i ^^^ K.b0) * 3449720151#32) ^^^ K.a2))
    (((c i * 3528531795#32) ^^^ (sHi0 K.a0 ^^^ K.b1)) * 3449720151#32)
    (mulHi M0 (hi1 (xori (hi0 c) (bc K.b0)) i ^^^ K.a1) ^^^ ((K.a0 * 3528531795#32) ^^^ K.b2))
    ((hi1 (xori (hi0 c) (bc K.b0)) i ^^^ K.a1) * 3528531795#32) = _
  rw [hi1_apply, e2, hi0_apply, sHi0_eq]
  simp only [sround, mulHi_zero, BitVec.xor_zero, BitVec.zero_xor, BitVec.zero_mul, BitVec.xor_assoc]
  have ex : ∀ a b d : BitVec 32, a ^^^ (b ^^^ d) = b ^^^ (a ^^^ d) := fun a b d => by
    rw [← BitVec.xor_assoc, BitVec.xor_comm a b, BitVec.xor_assoc]
  rw [ex (c i * 3528531795#32)]

theorem philox_at (K : Keys) (c : W) (i : S8x128.Idx) : (philox K c).at i = sphilox K (c i) := by
  unfold philox sphilox
  simp only [round_at, start_at]

/-! ## The byte of a pair of values -/

def gainS (F : FTy → Type) [FloatOps F] (e : BitVec 32) (h : Nat) : F .bf16 :=
  FloatOps.ofBits .bf16 ((2151710784#32 - e * 8388736#32).extractLsb' (16 * h) 16)
def cstS (F : FTy → Type) [FloatOps F] (b : BitVec 16) : F .bf16 := FloatOps.ofBits .bf16 b
def axisS (a2 : F .bf16) : F .bf16 :=
  FloatOps.minimumf a2 (FloatOps.minimumf (FloatOps.addf (FloatOps.mulf a2 (cstS F 0x3F00#16)) (cstS F 0x4000#16))
    (FloatOps.addf (FloatOps.mulf a2 (cstS F 0x3E80#16)) (cstS F 0x4080#16)))
def thrS (g : F .bf16) : F .bf16 := FloatOps.mulf (FloatOps.subf g (FloatOps.floor g)) (cstS F 0x4B80#16)
def nibS (v g : F .bf16) : BitVec 16 :=
  FloatOps.fptosi 16 (FloatOps.addf (FloatOps.floor g)
    (Scalar.select (FloatOps.cmpf .olt v (cstS F 0x0000#16)) (cstS F 0x4308#16) (cstS F 0x4300#16))) + 17024#16
def sideS (n : BitVec 32) : BitVec 32 := n + ((n >>> 12) &&& 240#32)
def upS (b r : BitVec 32) (t : F .bf16) (n : BitVec 32) : BitVec 32 :=
  Scalar.select (FloatOps.cmpf .olt (FloatOps.sitofp (F := F) .f32 (r >>> 8)) (FloatOps.extf .f32 bitsLt_bf16_f32 t)) (n + b) n
/-- A magnitude on the nibbles' axis. -/
def magS (v : F .bf16) (e : BitVec 32) (h : Nat) : F .bf16 := axisS (FloatOps.mulf (FloatOps.absf v) (gainS F e h))
def byteS (v0 v1 : F .bf16) (e r0 r1 : BitVec 32) : BitVec 32 :=
  upS 16#32 r1 (thrS (magS v1 e 1)) (upS 1#32 r0 (thrS (magS v0 e 0)) (sideS (nibS v1 (magS v1 e 1) ++ nibS v0 (magS v0 e 0))))

theorem shr8 (b : BitVec 32) : IntOp.shrui .vector b 8#32 = b >>> 8 := by
  unfold IntOp.shrui; rw [if_pos (by decide)]; rfl
theorem shr12 (b : BitVec 32) : IntOp.shrui .vector b 12#32 = b >>> 12 := by
  unfold IntOp.shrui; rw [if_pos (by decide)]; rfl

theorem gain_apply (e : W) (ρ : Fin 16) (r : Fin 8) (l : Fin 128) (hr : r.val = ρ.val / 2) :
    gain (F := F) e (ix2 ρ l) = gainS F (e (ix2 r l)) (ρ.val % 2) := by
  show FloatOps.ofBits .bf16 (bitcast S16x128 16 _ _ (ix2 ρ l)) = _
  rw [bitcast_32_16]
  unfold gainS
  have ei : ∀ hp, bitcasts_S8x128_w32_S16x128_w16.srcIdx (ix2 ρ l) ((S16x128).row (ix2 ρ l) / 2) hp = ix2 r l := by
    intro hp
    funext c
    match c with
    | ⟨0, _⟩ => exact Fin.ext ((Shape.Bitcasts.srcIdx_row _ _ _ _ ⟨0, Nat.zero_lt_two⟩ rfl).trans hr.symm)
    | ⟨1, _⟩ => exact Fin.ext (Shape.Bitcasts.srcIdx_other _ _ _ _ ⟨1, Nat.one_lt_two⟩ (by show ¬ 1 + 2 = 2; omega))
  rw [ei]
  rfl

theorem pair_word (x : IVec S16x128 16) (r : Fin 8) (l : Fin 128) :
    bitcast S8x128 32 x bitcasts_S16x128_w16_S8x128_w32 (ix2 r l)
      = x (ix2 ⟨2 * r.val + 1, by omega⟩ l) ++ x (ix2 ⟨2 * r.val, by omega⟩ l) := by
  rw [bitcast_16_32]
  have ei : ∀ (p : Nat) (hp' : p < 16) hp, bitcasts_S16x128_w16_S8x128_w32.srcIdx (ix2 r l) p hp = ix2 ⟨p, hp'⟩ l := by
    intro p hp' hp
    funext c
    match c with
    | ⟨0, _⟩ => exact Fin.ext (Shape.Bitcasts.srcIdx_row _ _ _ _ ⟨0, Nat.zero_lt_two⟩ rfl)
    | ⟨1, _⟩ => exact Fin.ext (Shape.Bitcasts.srcIdx_other _ _ _ _ ⟨1, Nat.one_lt_two⟩ (by show ¬ 1 + 2 = 2; omega))
  have er : (S8x128).row (ix2 r l) = r.val := rfl
  rw [ei (2 * (S8x128).row (ix2 r l) + 1) (by rw [er]; omega), ei (2 * (S8x128).row (ix2 r l)) (by rw [er]; omega)]
  rfl

theorem evens_apply (v : FVec F S16x128 .bf16) (r : Fin 8) (l : Fin 128) : evens v (ix2 r l) = v (ix2 ⟨2 * r.val, by omega⟩ l) := by
  unfold evens rowsOfParity
  dsimp only
  congr 1
  funext a
  match a with
  | ⟨0, _⟩ => rfl
  | ⟨1, _⟩ => rfl
theorem odds_apply (v : FVec F S16x128 .bf16) (r : Fin 8) (l : Fin 128) : odds v (ix2 r l) = v (ix2 ⟨2 * r.val + 1, by omega⟩ l) := by
  unfold odds rowsOfParity
  dsimp only
  congr 1
  funext a
  match a with
  | ⟨0, _⟩ => rfl
  | ⟨1, _⟩ => rfl
theorem half0_apply (v : FVec F S32x128 .bf16) (ρ : Fin 16) (l : Fin 128) : half0 v (ix2 ρ l) = v (ix2 ⟨ρ.val, by omega⟩ l) := by
  unfold half0 extractStridedSlice
  dsimp only
  congr 1
  funext a
  match a with
  | ⟨0, _⟩ => exact Fin.ext (by simp)
  | ⟨1, _⟩ => exact Fin.ext (by simp)
theorem half1_apply (v : FVec F S32x128 .bf16) (ρ : Fin 16) (l : Fin 128) : half1 v (ix2 ρ l) = v (ix2 ⟨16 + ρ.val, by omega⟩ l) := by
  unfold half1 extractStridedSlice
  dsimp only
  congr 1
  funext a
  match a with
  | ⟨0, _⟩ => exact Fin.ext (by simp)
  | ⟨1, _⟩ => exact Fin.ext (by simp)

theorem bytes_at (v a2 : FVec F S16x128 .bf16) (r0 r1 : W) (r : Fin 8) (l : Fin 128) :
    bytes v a2 r0 r1 (ix2 r l)
      = upS 16#32 (r1 (ix2 r l)) (thrS (axisS (a2 (ix2 ⟨2 * r.val + 1, by omega⟩ l))))
         (upS 1#32 (r0 (ix2 r l)) (thrS (axisS (a2 (ix2 ⟨2 * r.val, by omega⟩ l))))
          (sideS (nibS (v (ix2 ⟨2 * r.val + 1, by omega⟩ l)) (axisS (a2 (ix2 ⟨2 * r.val + 1, by omega⟩ l)))
            ++ nibS (v (ix2 ⟨2 * r.val, by omega⟩ l)) (axisS (a2 (ix2 ⟨2 * r.val, by omega⟩ l)))))) := by
  have eo : odds (thr (axis a2)) (ix2 r l) = thrS (axisS (a2 (ix2 ⟨2 * r.val + 1, by omega⟩ l))) := by rw [odds_apply]; rfl
  have ee : evens (thr (axis a2)) (ix2 r l) = thrS (axisS (a2 (ix2 ⟨2 * r.val, by omega⟩ l))) := by rw [evens_apply]; rfl
  have en : nibs v (axis a2) (ix2 r l) = nibS (v (ix2 ⟨2 * r.val + 1, by omega⟩ l)) (axisS (a2 (ix2 ⟨2 * r.val + 1, by omega⟩ l)))
            ++ nibS (v (ix2 ⟨2 * r.val, by omega⟩ l)) (axisS (a2 (ix2 ⟨2 * r.val, by omega⟩ l))) := by
    unfold nibs; rw [pair_word]; rfl
  have eu : ∀ (b : BitVec 32) (r1 : W) (t : FVec F S8x128 .bf16) (n : W),
      up b r1 t n (ix2 r l) = upS b (r1 (ix2 r l)) (t (ix2 r l)) (n (ix2 r l)) := fun b r1 t n => by
    show Scalar.select (FloatOps.cmpf .olt (FloatOps.sitofp (F := F) .f32 (IntOp.shrui .vector (r1 (ix2 r l)) 8#32)) _) _ _ = _
    rw [shr8]; rfl
  have es : side (nibs v (axis a2)) (ix2 r l) = sideS (nibs v (axis a2) (ix2 r l)) := by
    show _ + (IntOp.shrui .vector (nibs v (axis a2) (ix2 r l)) 12#32 &&& 240#32) = _
    rw [shr12]; rfl
  unfold bytes
  rw [eu, eu, eo, ee, es, en]

theorem bytes0_apply (v : FVec F S32x128 .bf16) (r0 r1 : W) (r : Fin 8) (l : Fin 128) :
    bytes0 v r0 r1 (ix2 r l) = byteS (v (ix2 ⟨2 * r.val, by omega⟩ l)) (v (ix2 ⟨2 * r.val + 1, by omega⟩ l)) (expOf v (ix2 r l))
      (r0 (ix2 r l)) (r1 (ix2 r l)) := by
  have em : ∀ ρ : Fin 16, mulf (half0 (absf v)) (gain (expOf v)) (ix2 ρ l)
      = FloatOps.mulf (FloatOps.absf (v (ix2 ⟨ρ.val, by omega⟩ l))) (gainS F (expOf v (ix2 ⟨ρ.val / 2, by omega⟩ l)) (ρ.val % 2)) := fun ρ => by
    rw [← gain_apply (expOf v) ρ ⟨ρ.val / 2, by omega⟩ l rfl]
    show FloatOps.mulf (half0 (absf v) (ix2 ρ l)) _ = _
    rw [half0_apply]; rfl
  have e0 : (⟨(2 * r.val) / 2, by omega⟩ : Fin 8) = r := Fin.ext (by simp)
  have e1 : (⟨(2 * r.val + 1) / 2, by omega⟩ : Fin 8) = r := Fin.ext (by simp; omega)
  unfold bytes0
  rw [bytes_at, em, em, half0_apply, half0_apply]
  simp only [e0, e1, show 2 * r.val % 2 = 0 by omega, show (2 * r.val + 1) % 2 = 1 by omega]
  rfl
theorem bytes1_apply (v : FVec F S32x128 .bf16) (r0 r1 : W) (r : Fin 8) (l : Fin 128) :
    bytes1 v r0 r1 (ix2 r l) = byteS (v (ix2 ⟨16 + 2 * r.val, by omega⟩ l)) (v (ix2 ⟨16 + (2 * r.val + 1), by omega⟩ l)) (expOf v (ix2 r l))
      (r0 (ix2 r l)) (r1 (ix2 r l)) := by
  have em : ∀ ρ : Fin 16, mulf (half1 (absf v)) (gain (expOf v)) (ix2 ρ l)
      = FloatOps.mulf (FloatOps.absf (v (ix2 ⟨16 + ρ.val, by omega⟩ l))) (gainS F (expOf v (ix2 ⟨ρ.val / 2, by omega⟩ l)) (ρ.val % 2)) := fun ρ => by
    rw [← gain_apply (expOf v) ρ ⟨ρ.val / 2, by omega⟩ l rfl]
    show FloatOps.mulf (half1 (absf v) (ix2 ρ l)) _ = _
    rw [half1_apply]; rfl
  have e0 : (⟨(2 * r.val) / 2, by omega⟩ : Fin 8) = r := Fin.ext (by simp)
  have e1 : (⟨(2 * r.val + 1) / 2, by omega⟩ : Fin 8) = r := Fin.ext (by simp; omega)
  unfold bytes1
  rw [bytes_at, em, em, half1_apply, half1_apply]
  simp only [e0, e1, show 2 * r.val % 2 = 0 by omega, show (2 * r.val + 1) % 2 = 1 by omega]
  rfl

/-! ## The greatest magnitude and its exponent, in exact arithmetic -/

def stepS (b : BitVec 32) (m : EReal) (e : BitVec 32) : BitVec 32 :=
  Scalar.select (Ideal.cmp .oge m (Ideal.ofBits .f32 ((e + b) <<< 23))) (e + b) e
def expoS (m : EReal) : BitVec 32 :=
  stepS 1#32 m (stepS 2#32 m (stepS 4#32 m (stepS 8#32 m (stepS 16#32 m (stepS 32#32 m (stepS 64#32 m (stepS 128#32 m 0#32)))))))

theorem bitStep_at (b : BitVec 32) (m : FVec Ideal S8x128 .f32) (e : W) (i : S8x128.Idx) : bitStep b m e i = stepS b (m i) (e i) := by
  show Scalar.select (Ideal.cmp .olt (m i) (Ideal.ofBits .f32 (IntOp.shli .vector (e i + b) 23#32))) (e i) (e i + b) = _
  rw [shl23]
  unfold stepS Scalar.select Ideal.cmp
  by_cases h : m i < Ideal.ofBits .f32 ((e i + b) <<< 23)
  · simp only [decide_eq_true h, decide_eq_false (not_le.2 h)]
    rfl
  · simp only [decide_eq_false h, decide_eq_true (not_lt.1 h)]
    rfl
theorem expo_at (m : FVec Ideal S8x128 .f32) (i : S8x128.Idx) : expo m i = expoS (m i) := by
  unfold expo expoS
  simp only [bitStep_at]
  rfl

theorem fold_apply (n : BitVec 32) (v : FVec Ideal S16x128 .bf16) (ρ : Fin 16) (l : Fin 128) (ρ' : Fin 16)
    (h : ρ'.val = 2 * ((ρ.val / 2 + 8 - n.toNat % 8) % 8) + ρ.val % 2) :
    fold n v (ix2 ρ l) = max (v (ix2 ρ l)) (v (ix2 ρ' l)) := by
  have hw : ∀ a b : FVec Ideal S8x128 .bf16, weave a b (ix2 ρ l) = if ρ.val % 2 = 0 then a (ix2 ⟨ρ.val / 2, by omega⟩ l) else b (ix2 ⟨ρ.val / 2, by omega⟩ l) := by
    intro a b
    have ex : ∀ (x : FVec Ideal S8x128 .bf16) (j : S8x128.Idx), (∀ c, (j c).val = (ix2 (⟨ρ.val / 2, by omega⟩ : Fin 8) l c).val) → x j = x (ix2 ⟨ρ.val / 2, by omega⟩ l) := by
      intro x j hj
      congr 1
      funext c
      exact Fin.ext (hj c)
    unfold weave interleaveRows
    dsimp only
    have er : (S16x128).row (ix2 ρ l) = ρ.val := rfl
    simp only [er]
    split_ifs <;> (apply ex; intro c; match c with
      | ⟨0, _⟩ => rfl
      | ⟨1, _⟩ => rfl)
  have ht : ∀ (a : FVec Ideal S8x128 .bf16) (r r' : Fin 8), r'.val = (r.val + 8 - n.toNat % 8) % 8 → turn n a (ix2 r l) = a (ix2 r' l) := by
    intro a r r' e
    have e' : turn n a (ix2 r l) = a (ix2 ⟨(r.val + 8 - n.toNat % 8) % 8, Nat.mod_lt _ (by omega)⟩ l) := by
      unfold turn dynamicRotate
      dsimp only
      congr 1
      funext c
      match c with
      | ⟨0, _⟩ => rfl
      | ⟨1, _⟩ => rfl
    rw [e']
    congr 2
    exact Fin.ext e.symm
  show max (weave (evens v) (odds v) (ix2 ρ l)) (weave (turn n (evens v)) (turn n (odds v)) (ix2 ρ l)) = _
  rw [hw, hw, ht _ _ ⟨(ρ.val / 2 + 8 - n.toNat % 8) % 8, Nat.mod_lt _ (by omega)⟩ rfl, ht _ _ ⟨(ρ.val / 2 + 8 - n.toNat % 8) % 8, Nat.mod_lt _ (by omega)⟩ rfl]
  have hv : ∀ (a b : Fin 16), a.val = b.val → v (ix2 a l) = v (ix2 b l) := fun a b e => by rw [Fin.ext e]
  split_ifs with hp
  · rw [evens_apply, evens_apply]
    congr 1 <;> apply hv <;> dsimp only <;> omega
  · rw [odds_apply, odds_apply]
    congr 1 <;> apply hv <;> dsimp only <;> omega

theorem folds_le (h : Fin 16 → EReal) (x : EReal) (ρ : Fin 16) (f4 f2 : Fin 16 → EReal)
    (e4 : ∀ i : Fin 16, f4 i = max (h i) (h (i + 8))) (e2 : ∀ i : Fin 16, f2 i = max (f4 i) (f4 (i + 12))) :
    max (f2 ρ) (f2 (ρ + 14)) ≤ x ↔ ∀ i : Fin 16, i.val % 2 = ρ.val % 2 → h i ≤ x := by
  simp only [e2, e4, max_le_iff]
  constructor
  · rintro ⟨⟨⟨a0, a1⟩, a2, a3⟩, ⟨a4, a5⟩, a6, a7⟩ i hi
    have : i = ρ ∨ i = ρ + 8 ∨ i = ρ + 12 ∨ i = ρ + 12 + 8 ∨ i = ρ + 14 ∨ i = ρ + 14 + 8 ∨ i = ρ + 14 + 12 ∨ i = ρ + 14 + 12 + 8 := by
      revert hi; clear * -; revert i ρ; decide
    rcases this with e | e | e | e | e | e | e | e <;> rw [e] <;> assumption
  · intro H
    have hh : ∀ j : Fin 16, j.val % 2 = 0 → h (ρ + j) ≤ x := fun j hj => H _ (by revert hj; clear * -; revert j ρ; decide)
    refine ⟨⟨⟨by simpa using hh 0 rfl, hh 8 rfl⟩, hh 12 rfl, ?_⟩, ⟨hh 14 rfl, ?_⟩, ?_, ?_⟩
    · rw [add_assoc]; exact hh _ rfl
    · rw [add_assoc]; exact hh _ rfl
    · rw [add_assoc]; exact hh _ rfl
    · rw [add_assoc, add_assoc]; exact hh _ rfl

theorem amax_le (av : FVec Ideal S32x128 .bf16) (r : Fin 8) (l : Fin 128) (x : EReal) :
    amax av (ix2 r l) ≤ x ↔ ∀ ρ : Fin 32, av (ix2 ρ l) ≤ x := by
  let h : Fin 16 → EReal := fun i => maximumf (half0 av) (half1 av) (ix2 i l)
  have eh : ∀ i : Fin 16, h i = max (av (ix2 ⟨i.val, by omega⟩ l)) (av (ix2 ⟨16 + i.val, by omega⟩ l)) := fun i => by
    show max (half0 av (ix2 i l)) (half1 av (ix2 i l)) = _
    rw [half0_apply, half1_apply]
  let v4 := fold 4#32 (maximumf (half0 av) (half1 av))
  let v2 := fold 2#32 v4
  have e4 : ∀ i : Fin 16, v4 (ix2 i l) = max (h i) (h (i + 8)) := fun i =>
    fold_apply 4#32 _ i l (i + 8) (by revert i; decide)
  have e2 : ∀ i : Fin 16, v2 (ix2 i l) = max (v4 (ix2 i l)) (v4 (ix2 (i + 12) l)) := fun i =>
    fold_apply 2#32 _ i l (i + 12) (by revert i; decide)
  have e1 : ∀ i : Fin 16, fold 1#32 v2 (ix2 i l) = max (v2 (ix2 i l)) (v2 (ix2 (i + 14) l)) := fun i =>
    fold_apply 1#32 _ i l (i + 14) (by revert i; decide)
  show max (odds (fold 1#32 v2) (ix2 r l)) (evens (fold 1#32 v2) (ix2 r l)) ≤ x ↔ _
  rw [odds_apply, evens_apply, max_le_iff, e1, e1]
  rw [folds_le h x _ (fun i => v4 (ix2 i l)) (fun i => v2 (ix2 i l)) e4 e2, folds_le h x _ (fun i => v4 (ix2 i l)) (fun i => v2 (ix2 i l)) e4 e2]
  constructor
  · rintro ⟨h1, h0⟩ ρ
    have key : ∀ i : Fin 16, h i ≤ x := fun i => by
      by_cases hi : i.val % 2 = 0
      · exact h0 i (by dsimp only; omega)
      · exact h1 i (by dsimp only; omega)
    by_cases hρ : ρ.val < 16
    · have := key ⟨ρ.val, hρ⟩
      rw [eh, max_le_iff] at this
      exact this.1
    · have := key ⟨ρ.val - 16, by omega⟩
      rw [eh, max_le_iff] at this
      have e : (⟨16 + (ρ.val - 16), by omega⟩ : Fin 32) = ρ := Fin.ext (by dsimp only; omega)
      rw [← e]; exact this.2
  · intro H
    have key : ∀ i : Fin 16, h i ≤ x := fun i => by rw [eh, max_le_iff]; exact ⟨H _, H _⟩
    exact ⟨fun i _ => key i, fun i _ => key i⟩

/-- The greatest magnitude of 32 values. -/
def colMax (v : Fin 32 → EReal) : EReal := Finset.univ.sup fun ρ => max (v ρ) (-(v ρ))

theorem amax_eq (v : FVec Ideal S32x128 .bf16) (r : Fin 8) (l : Fin 128) :
    amax (absf v) (ix2 r l) = colMax fun ρ => v (ix2 ρ l) := by
  apply eq_of_forall_ge_iff
  intro x
  rw [amax_le, colMax, Finset.sup_le_iff]
  exact ⟨fun H ρ _ => H ρ, fun H ρ => H ρ (Finset.mem_univ ρ)⟩

theorem expOf_apply (v : FVec Ideal S32x128 .bf16) (r : Fin 8) (l : Fin 128) :
    expOf v (ix2 r l) = expoS (colMax fun ρ => v (ix2 ρ l)) := by
  unfold expOf
  rw [expo_at, amax_eq]

end Cert.KernelIdeal.Chunk

end
-- ==== Proof.Pass.lean ====
/- One pass of the inner loop, element by element: the block of bytes it stores and the exponents it keeps, as functions of the
   codes and the scales it reads. -/
module

public import proofs.«01_k».proof.Proof.Scalar

@[expose] public section

set_option maxRecDepth 16384

noncomputable section

namespace Cert.KernelIdeal.Chunk

open Cert.KernelIdeal
open Cert.KernelIdeal.Gen
open Idealize.ShloMosaic Idealize.ShloMosaic.ValueIdx Idealize.SL.Sem

/-- The word of a counter's four. -/
def S4.word (s : S4) (j : Nat) : BitVec 32 := pick j s.c0 s.c1 s.c2 s.c3

/-- The value at a row and a column, from the codes and the scales by row and column. -/
def vN (A B : Nat → Nat → BitVec 8) (s c : Nat) : EReal := val Ideal (A s c) (B s (c / 32))
/-- The biased exponent of a group of 32 rows. -/
def ebN (V : Nat → Nat → EReal) (g c : Nat) : BitVec 32 := expoS (colMax fun i => V (32 * g + i.val) c)
/-- The random word of a row and a column, in block `(a0, a1)`. -/
def rN (K : Keys) (a0 a1 : Nat) (s c : Nat) : BitVec 32 :=
  (sphilox K (BitVec.ofNat 32 ((a0 * 384 + s) * 9216 + a1 * 1024 + c / 4))).word (c % 4)
/-- The byte of two rows. -/
def codeN (V : Nat → Nat → EReal) (R : Nat → Nat → BitVec 32) (p c : Nat) : BitVec 8 :=
  (byteS (F := Ideal) (V (2 * p) c) (V (2 * p + 1) c) (ebN V (p / 16) c) (R (2 * p) c) (R (2 * p + 1) c)).setWidth 8

/-- What a pass reads, in terms of the codes and the scales. -/
structure InOk (I : In) (A B : Nat → Nat → BitVec 8) (k1 k a0 a1 : Nat) : Prop where
  hk1 : k1 < 8
  x00 : ∀ (ρ : Fin 32) (l : Fin 128), I.x00 (ix3 0 ρ l) = A (64 * k + ρ.val) (512 * k1 + l.val)
  x01 : ∀ (ρ : Fin 32) (l : Fin 128), I.x01 (ix3 0 ρ l) = A (64 * k + ρ.val) (512 * k1 + 128 + l.val)
  x02 : ∀ (ρ : Fin 32) (l : Fin 128), I.x02 (ix3 0 ρ l) = A (64 * k + ρ.val) (512 * k1 + 256 + l.val)
  x03 : ∀ (ρ : Fin 32) (l : Fin 128), I.x03 (ix3 0 ρ l) = A (64 * k + ρ.val) (512 * k1 + 384 + l.val)
  x10 : ∀ (ρ : Fin 32) (l : Fin 128), I.x10 (ix3 0 ρ l) = A (64 * k + 32 + ρ.val) (512 * k1 + l.val)
  x11 : ∀ (ρ : Fin 32) (l : Fin 128), I.x11 (ix3 0 ρ l) = A (64 * k + 32 + ρ.val) (512 * k1 + 128 + l.val)
  x12 : ∀ (ρ : Fin 32) (l : Fin 128), I.x12 (ix3 0 ρ l) = A (64 * k + 32 + ρ.val) (512 * k1 + 256 + l.val)
  x13 : ∀ (ρ : Fin 32) (l : Fin 128), I.x13 (ix3 0 ρ l) = A (64 * k + 32 + ρ.val) (512 * k1 + 384 + l.val)
  s0 : ∀ (ρ : Fin 32) (l : Fin 128), I.s0 (ix3 0 ρ l) = B (64 * k + ρ.val) l.val
  s1 : ∀ (ρ : Fin 32) (l : Fin 128), I.s1 (ix3 0 ρ l) = B (64 * k + 32 + ρ.val) l.val
  h51 : ∀ (r : Fin 8) (l : Fin 128), I.v51 (ix2 r l) = BitVec.ofNat 32 (18432 * r.val + (l.val % 4) * 32 + l.val / 4)
  h58 : ∀ (r : Fin 8) (l : Fin 128), I.v58 (ix2 r l) = BitVec.ofNat 32 ((l.val % 4) * 4 + l.val / 32)
  arg8 : I.arg8 = BitVec.ofNat 32 k1
  base : I.base = BitVec.ofNat 32 ((a0 * 384 + 64 * k) * 9216 + a1 * 1024 + k1 * 128)

/-- The column of a lane and a word. -/
def colOf (k1 j : Nat) (l : Fin 128) : Nat := 512 * k1 + 128 * (l.val % 4) + (l.val / 4 * 4 + j)

theorem pick_col (m k1 j : Nat) (l : Fin 128) (hm : l.val % 4 = m) (hj : j < 4) (A : Nat → Nat → BitVec 8) (s : Nat)
    (x0 x1 x2 x3 : IVec S1x32x128 8) (ρ : Fin 32)
    (h0 : ∀ l : Fin 128, x0 (ix3 0 ρ l) = A s (512 * k1 + l.val)) (h1 : ∀ l : Fin 128, x1 (ix3 0 ρ l) = A s (512 * k1 + 128 + l.val))
    (h2 : ∀ l : Fin 128, x2 (ix3 0 ρ l) = A s (512 * k1 + 256 + l.val)) (h3 : ∀ l : Fin 128, x3 (ix3 0 ρ l) = A s (512 * k1 + 384 + l.val)) :
    (pick m x0 x1 x2 x3) (ix3 0 ρ (ln l j hj)) = A s (colOf k1 j l) := by
  unfold pick colOf
  split_ifs with a b c
  · rw [h0]; congr 1; dsimp only; omega
  · rw [h1]; congr 1; dsimp only; omega
  · rw [h2]; congr 1; dsimp only; omega
  · rw [h3]; congr 1; dsimp only; omega

theorem scale_col {I : In} {A B : Nat → Nat → BitVec 8} {k1 k a0 a1 : Nat} (H : InOk I A B k1 k a0 a1) (r : Fin 8) (l : Fin 128) (j : Nat) (hj : j < 4) :
    I.v58 (ix2 r l) + I.arg8 * 16#32 = BitVec.ofNat 32 (colOf k1 j l / 32) := by
  have h := H.hk1
  rw [H.h58, H.arg8, ← BitVec.ofNat_mul, ← BitVec.ofNat_add]
  congr 1
  unfold colOf
  omega

theorem col_lt {k1 : Nat} (h : k1 < 8) (j : Nat) (hj : j < 4) (l : Fin 128) : colOf k1 j l / 32 < 128 := by
  unfold colOf; omega

theorem f0_apply {I : In} {A B : Nat → Nat → BitVec 8} {k1 k a0 a1 : Nat} (H : InOk I A B k1 k a0 a1) (ρ : Fin 32) (l : Fin 128) (j : Nat) (hj : j < 4) :
    f0 (F := Ideal) I (ix2 ρ l) = scl Ideal (B (64 * k + ρ.val) (colOf k1 j l / 32)) := by
  unfold f0
  rw [fscale_apply I.s0 I.v58 I.arg8 ρ l ⟨colOf k1 j l / 32, col_lt H.hk1 j hj l⟩ (scale_col H _ l j hj), H.s0]
theorem v00_apply {I : In} {A B : Nat → Nat → BitVec 8} {k1 k a0 a1 : Nat} (H : InOk I A B k1 k a0 a1) (ρ : Fin 32) (l : Fin 128) :
    v00 (F := Ideal) I (ix2 ρ l) = vN A B (64 * k + ρ.val) (colOf k1 0 l) := by
  show decode (F := Ideal) (qt0 (words I.x00) (words I.x01) (words I.x02) (words I.x03)) (ix2 ρ l) * f0 (F := Ideal) I (ix2 ρ l) = _
  rw [dec_of_pick _ (words I.x00) (words I.x01) (words I.x02) (words I.x03) I.x00 I.x01 I.x02 I.x03 ρ l (ln l 0 (by omega)) (l.val % 4) (fun r => qt0_apply _ _ _ _ r l),
    f0_apply H ρ l 0 (by omega), pick_col _ k1 0 l rfl (by omega) A (64 * k + ρ.val) _ _ _ _ ρ (H.x00 ρ) (H.x01 ρ) (H.x02 ρ) (H.x03 ρ)]
  rfl
theorem e00_apply {I : In} {A B : Nat → Nat → BitVec 8} {k1 k a0 a1 : Nat} (H : InOk I A B k1 k a0 a1) (r : Fin 8) (l : Fin 128) :
    expOf (F := Ideal) (v00 I) (ix2 r l) = ebN (vN A B) (2 * k + 0) (colOf k1 0 l) := by
  rw [expOf_apply]
  unfold ebN
  congr 2
  funext ρ
  rw [v00_apply H]
  congr 1
  omega
theorem v01_apply {I : In} {A B : Nat → Nat → BitVec 8} {k1 k a0 a1 : Nat} (H : InOk I A B k1 k a0 a1) (ρ : Fin 32) (l : Fin 128) :
    v01 (F := Ideal) I (ix2 ρ l) = vN A B (64 * k + ρ.val) (colOf k1 1 l) := by
  show decode (F := Ideal) (qt1 (words I.x00) (words I.x01) (words I.x02) (words I.x03)) (ix2 ρ l) * f0 (F := Ideal) I (ix2 ρ l) = _
  rw [dec_of_pick _ (words I.x00) (words I.x01) (words I.x02) (words I.x03) I.x00 I.x01 I.x02 I.x03 ρ l (ln l 1 (by omega)) (l.val % 4) (fun r => qt1_apply _ _ _ _ r l),
    f0_apply H ρ l 1 (by omega), pick_col _ k1 1 l rfl (by omega) A (64 * k + ρ.val) _ _ _ _ ρ (H.x00 ρ) (H.x01 ρ) (H.x02 ρ) (H.x03 ρ)]
  rfl
theorem e01_apply {I : In} {A B : Nat → Nat → BitVec 8} {k1 k a0 a1 : Nat} (H : InOk I A B k1 k a0 a1) (r : Fin 8) (l : Fin 128) :
    expOf (F := Ideal) (v01 I) (ix2 r l) = ebN (vN A B) (2 * k + 0) (colOf k1 1 l) := by
  rw [expOf_apply]
  unfold ebN
  congr 2
  funext ρ
  rw [v01_apply H]
  congr 1
  omega
theorem v02_apply {I : In} {A B : Nat → Nat → BitVec 8} {k1 k a0 a1 : Nat} (H : InOk I A B k1 k a0 a1) (ρ : Fin 32) (l : Fin 128) :
    v02 (F := Ideal) I (ix2 ρ l) = vN A B (64 * k + ρ.val) (colOf k1 2 l) := by
  show decode (F := Ideal) (qt2 (words I.x00) (words I.x01) (words I.x02) (words I.x03)) (ix2 ρ l) * f0 (F := Ideal) I (ix2 ρ l) = _
  rw [dec_of_pick _ (words I.x00) (words I.x01) (words I.x02) (words I.x03) I.x00 I.x01 I.x02 I.x03 ρ l (ln l 2 (by omega)) (l.val % 4) (fun r => qt2_apply _ _ _ _ r l),
    f0_apply H ρ l 2 (by omega), pick_col _ k1 2 l rfl (by omega) A (64 * k + ρ.val) _ _ _ _ ρ (H.x00 ρ) (H.x01 ρ) (H.x02 ρ) (H.x03 ρ)]
  rfl
theorem e02_apply {I : In} {A B : Nat → Nat → BitVec 8} {k1 k a0 a1 : Nat} (H : InOk I A B k1 k a0 a1) (r : Fin 8) (l : Fin 128) :
    expOf (F := Ideal) (v02 I) (ix2 r l) = ebN (vN A B) (2 * k + 0) (colOf k1 2 l) := by
  rw [expOf_apply]
  unfold ebN
  congr 2
  funext ρ
  rw [v02_apply H]
  congr 1
  omega
theorem v03_apply {I : In} {A B : Nat → Nat → BitVec 8} {k1 k a0 a1 : Nat} (H : InOk I A B k1 k a0 a1) (ρ : Fin 32) (l : Fin 128) :
    v03 (F := Ideal) I (ix2 ρ l) = vN A B (64 * k + ρ.val) (colOf k1 3 l) := by
  show decode (F := Ideal) (qt3 (words I.x00) (words I.x01) (words I.x02) (words I.x03)) (ix2 ρ l) * f0 (F := Ideal) I (ix2 ρ l) = _
  rw [dec_of_pick _ (words I.x00) (words I.x01) (words I.x02) (words I.x03) I.x00 I.x01 I.x02 I.x03 ρ l (ln l 3 (by omega)) (l.val % 4) (fun r => qt3_apply _ _ _ _ r l),
    f0_apply H ρ l 3 (by omega), pick_col _ k1 3 l rfl (by omega) A (64 * k + ρ.val) _ _ _ _ ρ (H.x00 ρ) (H.x01 ρ) (H.x02 ρ) (H.x03 ρ)]
  rfl
theorem e03_apply {I : In} {A B : Nat → Nat → BitVec 8} {k1 k a0 a1 : Nat} (H : InOk I A B k1 k a0 a1) (r : Fin 8) (l : Fin 128) :
    expOf (F := Ideal) (v03 I) (ix2 r l) = ebN (vN A B) (2 * k + 0) (colOf k1 3 l) := by
  rw [expOf_apply]
  unfold ebN
  congr 2
  funext ρ
  rw [v03_apply H]
  congr 1
  omega

theorem f1_apply {I : In} {A B : Nat → Nat → BitVec 8} {k1 k a0 a1 : Nat} (H : InOk I A B k1 k a0 a1) (ρ : Fin 32) (l : Fin 128) (j : Nat) (hj : j < 4) :
    f1 (F := Ideal) I (ix2 ρ l) = scl Ideal (B (64 * k + 32 + ρ.val) (colOf k1 j l / 32)) := by
  unfold f1
  rw [fscale_apply I.s1 I.v58 I.arg8 ρ l ⟨colOf k1 j l / 32, col_lt H.hk1 j hj l⟩ (scale_col H _ l j hj), H.s1]
theorem v10_apply {I : In} {A B : Nat → Nat → BitVec 8} {k1 k a0 a1 : Nat} (H : InOk I A B k1 k a0 a1) (ρ : Fin 32) (l : Fin 128) :
    v10 (F := Ideal) I (ix2 ρ l) = vN A B (64 * k + 32 + ρ.val) (colOf k1 0 l) := by
  show decode (F := Ideal) (qt0 (words I.x10) (words I.x11) (words I.x12) (words I.x13)) (ix2 ρ l) * f1 (F := Ideal) I (ix2 ρ l) = _
  rw [dec_of_pick _ (words I.x10) (words I.x11) (words I.x12) (words I.x13) I.x10 I.x11 I.x12 I.x13 ρ l (ln l 0 (by omega)) (l.val % 4) (fun r => qt0_apply _ _ _ _ r l),
    f1_apply H ρ l 0 (by omega), pick_col _ k1 0 l rfl (by omega) A (64 * k + 32 + ρ.val) _ _ _ _ ρ (H.x10 ρ) (H.x11 ρ) (H.x12 ρ) (H.x13 ρ)]
  rfl
theorem e10_apply {I : In} {A B : Nat → Nat → BitVec 8} {k1 k a0 a1 : Nat} (H : InOk I A B k1 k a0 a1) (r : Fin 8) (l : Fin 128) :
    expOf (F := Ideal) (v10 I) (ix2 r l) = ebN (vN A B) (2 * k + 1) (colOf k1 0 l) := by
  rw [expOf_apply]
  unfold ebN
  congr 2
  funext ρ
  rw [v10_apply H]
  congr 1
  omega
theorem v11_apply {I : In} {A B : Nat → Nat → BitVec 8} {k1 k a0 a1 : Nat} (H : InOk I A B k1 k a0 a1) (ρ : Fin 32) (l : Fin 128) :
    v11 (F := Ideal) I (ix2 ρ l) = vN A B (64 * k + 32 + ρ.val) (colOf k1 1 l) := by
  show decode (F := Ideal) (qt1 (words I.x10) (words I.x11) (words I.x12) (words I.x13)) (ix2 ρ l) * f1 (F := Ideal) I (ix2 ρ l) = _
  rw [dec_of_pick _ (words I.x10) (words I.x11) (words I.x12) (words I.x13) I.x10 I.x11 I.x12 I.x13 ρ l (ln l 1 (by omega)) (l.val % 4) (fun r => qt1_apply _ _ _ _ r l),
    f1_apply H ρ l 1 (by omega), pick_col _ k1 1 l rfl (by omega) A (64 * k + 32 + ρ.val) _ _ _ _ ρ (H.x10 ρ) (H.x11 ρ) (H.x12 ρ) (H.x13 ρ)]
  rfl
theorem e11_apply {I : In} {A B : Nat → Nat → BitVec 8} {k1 k a0 a1 : Nat} (H : InOk I A B k1 k a0 a1) (r : Fin 8) (l : Fin 128) :
    expOf (F := Ideal) (v11 I) (ix2 r l) = ebN (vN A B) (2 * k + 1) (colOf k1 1 l) := by
  rw [expOf_apply]
  unfold ebN
  congr 2
  funext ρ
  rw [v11_apply H]
  congr 1
  omega
theorem v12_apply {I : In} {A B : Nat → Nat → BitVec 8} {k1 k a0 a1 : Nat} (H : InOk I A B k1 k a0 a1) (ρ : Fin 32) (l : Fin 128) :
    v12 (F := Ideal) I (ix2 ρ l) = vN A B (64 * k + 32 + ρ.val) (colOf k1 2 l) := by
  show decode (F := Ideal) (qt2 (words I.x10) (words I.x11) (words I.x12) (words I.x13)) (ix2 ρ l) * f1 (F := Ideal) I (ix2 ρ l) = _
  rw [dec_of_pick _ (words I.x10) (words I.x11) (words I.x12) (words I.x13) I.x10 I.x11 I.x12 I.x13 ρ l (ln l 2 (by omega)) (l.val % 4) (fun r => qt2_apply _ _ _ _ r l),
    f1_apply H ρ l 2 (by omega), pick_col _ k1 2 l rfl (by omega) A (64 * k + 32 + ρ.val) _ _ _ _ ρ (H.x10 ρ) (H.x11 ρ) (H.x12 ρ) (H.x13 ρ)]
  rfl
theorem e12_apply {I : In} {A B : Nat → Nat → BitVec 8} {k1 k a0 a1 : Nat} (H : InOk I A B k1 k a0 a1) (r : Fin 8) (l : Fin 128) :
    expOf (F := Ideal) (v12 I) (ix2 r l) = ebN (vN A B) (2 * k + 1) (colOf k1 2 l) := by
  rw [expOf_apply]
  unfold ebN
  congr 2
  funext ρ
  rw [v12_apply H]
  congr 1
  omega
theorem v13_apply {I : In} {A B : Nat → Nat → BitVec 8} {k1 k a0 a1 : Nat} (H : InOk I A B k1 k a0 a1) (ρ : Fin 32) (l : Fin 128) :
    v13 (F := Ideal) I (ix2 ρ l) = vN A B (64 * k + 32 + ρ.val) (colOf k1 3 l) := by
  show decode (F := Ideal) (qt3 (words I.x10) (words I.x11) (words I.x12) (words I.x13)) (ix2 ρ l) * f1 (F := Ideal) I (ix2 ρ l) = _
  rw [dec_of_pick _ (words I.x10) (words I.x11) (words I.x12) (words I.x13) I.x10 I.x11 I.x12 I.x13 ρ l (ln l 3 (by omega)) (l.val % 4) (fun r => qt3_apply _ _ _ _ r l),
    f1_apply H ρ l 3 (by omega), pick_col _ k1 3 l rfl (by omega) A (64 * k + 32 + ρ.val) _ _ _ _ ρ (H.x10 ρ) (H.x11 ρ) (H.x12 ρ) (H.x13 ρ)]
  rfl
theorem e13_apply {I : In} {A B : Nat → Nat → BitVec 8} {k1 k a0 a1 : Nat} (H : InOk I A B k1 k a0 a1) (r : Fin 8) (l : Fin 128) :
    expOf (F := Ideal) (v13 I) (ix2 r l) = ebN (vN A B) (2 * k + 1) (colOf k1 3 l) := by
  rw [expOf_apply]
  unfold ebN
  congr 2
  funext ρ
  rw [v13_apply H]
  congr 1
  omega

theorem rnd_at {I : In} {A B : Nat → Nat → BitVec 8} {k1 k a0 a1 : Nat} (H : InOk I A B k1 k a0 a1) (e : Nat) (r : Fin 8) (l : Fin 128) :
    (rnd I (BitVec.ofNat 32 (9216 * e))).at (ix2 r l)
      = sphilox I.K (BitVec.ofNat 32 ((a0 * 384 + (64 * k + e + 2 * r.val)) * 9216 + a1 * 1024 + colOf k1 0 l / 4)) := by
  unfold rnd
  rw [philox_at]
  congr 1
  show I.v51 (ix2 r l) + (I.base + BitVec.ofNat 32 (9216 * e)) = _
  rw [H.h51, H.base, ← BitVec.ofNat_add, ← BitVec.ofNat_add]
  congr 1
  unfold colOf
  omega

theorem rN_word (K : Keys) (a0 a1 s k1 j : Nat) (l : Fin 128) (hj : j < 4) :
    rN K a0 a1 s (colOf k1 j l) = (sphilox K (BitVec.ofNat 32 ((a0 * 384 + s) * 9216 + a1 * 1024 + colOf k1 0 l / 4))).word j := by
  unfold rN
  have e1 : colOf k1 j l % 4 = j := by unfold colOf; omega
  have e2 : colOf k1 j l / 4 = colOf k1 0 l / 4 := by unfold colOf; omega
  rw [e1, e2]

/-- The packed bytes of a word of the quad, from the values and the random numbers by row and column. -/
theorem packed_byte (v w : FVec Ideal S32x128 .bf16) (r0 r1 r2 r3 r4 r5 r6 r7 : W) (V : Nat → Nat → EReal) (R : Nat → Nat → BitVec 32) (k c : Nat) (l : Fin 128)
    (hv : ∀ ρ : Fin 32, v (ix2 ρ l) = V (64 * k + ρ.val) c) (hw : ∀ ρ : Fin 32, w (ix2 ρ l) = V (64 * k + 32 + ρ.val) c)
    (hev : ∀ r : Fin 8, expOf v (ix2 r l) = ebN V (2 * k) c) (hew : ∀ r : Fin 8, expOf w (ix2 r l) = ebN V (2 * k + 1) c)
    (h0 : ∀ r : Fin 8, r0 (ix2 r l) = R (64 * k + 0 + 2 * r.val) c) (h1 : ∀ r : Fin 8, r1 (ix2 r l) = R (64 * k + 1 + 2 * r.val) c)
    (h2 : ∀ r : Fin 8, r2 (ix2 r l) = R (64 * k + 16 + 2 * r.val) c) (h3 : ∀ r : Fin 8, r3 (ix2 r l) = R (64 * k + 17 + 2 * r.val) c)
    (h4 : ∀ r : Fin 8, r4 (ix2 r l) = R (64 * k + 32 + 2 * r.val) c) (h5 : ∀ r : Fin 8, r5 (ix2 r l) = R (64 * k + 33 + 2 * r.val) c)
    (h6 : ∀ r : Fin 8, r6 (ix2 r l) = R (64 * k + 48 + 2 * r.val) c) (h7 : ∀ r : Fin 8, r7 (ix2 r l) = R (64 * k + 49 + 2 * r.val) c)
    (ρ : Fin 32) (r : Fin 8) (hr : r.val = ρ.val / 4) :
    (packed v w r0 r1 r2 r3 r4 r5 r6 r7 (ix2 r l)).extractLsb' (8 * (ρ.val % 4)) 8 = codeN V R (32 * k + ρ.val) c := by
  unfold packed
  rw [pack_byte _ _ _ _ ρ r l hr]
  unfold codeN
  congr 1
  have h4' : ρ.val / 8 = 0 ∨ ρ.val / 8 = 1 ∨ ρ.val / 8 = 2 ∨ ρ.val / 8 = 3 := by omega
  have hb : ∀ (x0 x1 y0 y1 : EReal) (e e' q0 q1 p0 p1 : BitVec 32), x0 = y0 → x1 = y1 → e = e' → q0 = p0 → q1 = p1 →
      byteS (F := Ideal) x0 x1 e q0 q1 = byteS (F := Ideal) y0 y1 e' p0 p1 := by
    intro x0 x1 y0 y1 e e' q0 q1 p0 p1 a b c d f; rw [a, b, c, d, f]
  have hV : ∀ a b : Nat, a = b → V a c = V b c := fun a b e => by rw [e]
  have hR : ∀ a b : Nat, a = b → R a c = R b c := fun a b e => by rw [e]
  have hE : ∀ a b : Nat, a = b → ebN V a c = ebN V b c := fun a b e => by rw [e]
  rcases h4' with h | h | h | h <;> rw [h]
  · show bytes0 v r0 r1 _ = _
    rw [bytes0_apply, hv, hv, hev, h0, h1]
    apply hb <;> (first | apply hV | apply hR | apply hE) <;> (try dsimp only) <;> omega
  · show bytes1 v r2 r3 _ = _
    rw [bytes1_apply, hv, hv, hev, h2, h3]
    apply hb <;> (first | apply hV | apply hR | apply hE) <;> (try dsimp only) <;> omega
  · show bytes0 w r4 r5 _ = _
    rw [bytes0_apply, hw, hw, hew, h4, h5]
    apply hb <;> (first | apply hV | apply hR | apply hE) <;> (try dsimp only) <;> omega
  · show bytes1 w r6 r7 _ = _
    rw [bytes1_apply, hw, hw, hew, h6, h7]
    apply hb <;> (first | apply hV | apply hR | apply hE) <;> (try dsimp only) <;> omega

theorem rnd0 {I : In} {A B : Nat → Nat → BitVec 8} {k1 k a0 a1 : Nat} (H : InOk I A B k1 k a0 a1) (e : Nat) (r : Fin 8) (l : Fin 128) :
    (rnd I (BitVec.ofNat 32 (9216 * e))).c0 (ix2 r l) = rN I.K a0 a1 (64 * k + e + 2 * r.val) (colOf k1 0 l) := by
  rw [rN_word _ _ _ _ _ 0 l (by omega), ← rnd_at H e r l]; rfl
theorem pk0_byte {I : In} {A B : Nat → Nat → BitVec 8} {k1 k a0 a1 : Nat} (H : InOk I A B k1 k a0 a1) (l : Fin 128) (ρ : Fin 32) (r : Fin 8) (hr : r.val = ρ.val / 4) :
    (pk0 Ideal I (ix2 r l)).extractLsb' (8 * (ρ.val % 4)) 8 = codeN (vN A B) (rN I.K a0 a1) (32 * k + ρ.val) (colOf k1 0 l) :=
  packed_byte _ _ _ _ _ _ _ _ _ _ _ _ k _ l (fun ρ => v00_apply H ρ l) (fun ρ => v10_apply H ρ l) (fun r => e00_apply H r l) (fun r => e10_apply H r l)
    (fun r => rnd0 H 0 r l) (fun r => rnd0 H 1 r l) (fun r => rnd0 H 16 r l) (fun r => rnd0 H 17 r l)
    (fun r => rnd0 H 32 r l) (fun r => rnd0 H 33 r l) (fun r => rnd0 H 48 r l) (fun r => rnd0 H 49 r l) ρ r hr

theorem rnd1 {I : In} {A B : Nat → Nat → BitVec 8} {k1 k a0 a1 : Nat} (H : InOk I A B k1 k a0 a1) (e : Nat) (r : Fin 8) (l : Fin 128) :
    (rnd I (BitVec.ofNat 32 (9216 * e))).c1 (ix2 r l) = rN I.K a0 a1 (64 * k + e + 2 * r.val) (colOf k1 1 l) := by
  rw [rN_word _ _ _ _ _ 1 l (by omega), ← rnd_at H e r l]; rfl
theorem pk1_byte {I : In} {A B : Nat → Nat → BitVec 8} {k1 k a0 a1 : Nat} (H : InOk I A B k1 k a0 a1) (l : Fin 128) (ρ : Fin 32) (r : Fin 8) (hr : r.val = ρ.val / 4) :
    (pk1 Ideal I (ix2 r l)).extractLsb' (8 * (ρ.val % 4)) 8 = codeN (vN A B) (rN I.K a0 a1) (32 * k + ρ.val) (colOf k1 1 l) :=
  packed_byte _ _ _ _ _ _ _ _ _ _ _ _ k _ l (fun ρ => v01_apply H ρ l) (fun ρ => v11_apply H ρ l) (fun r => e01_apply H r l) (fun r => e11_apply H r l)
    (fun r => rnd1 H 0 r l) (fun r => rnd1 H 1 r l) (fun r => rnd1 H 16 r l) (fun r => rnd1 H 17 r l)
    (fun r => rnd1 H 32 r l) (fun r => rnd1 H 33 r l) (fun r => rnd1 H 48 r l) (fun r => rnd1 H 49 r l) ρ r hr

theorem rnd2 {I : In} {A B : Nat → Nat → BitVec 8} {k1 k a0 a1 : Nat} (H : InOk I A B k1 k a0 a1) (e : Nat) (r : Fin 8) (l : Fin 128) :
    (rnd I (BitVec.ofNat 32 (9216 * e))).c2 (ix2 r l) = rN I.K a0 a1 (64 * k + e + 2 * r.val) (colOf k1 2 l) := by
  rw [rN_word _ _ _ _ _ 2 l (by omega), ← rnd_at H e r l]; rfl
theorem pk2_byte {I : In} {A B : Nat → Nat → BitVec 8} {k1 k a0 a1 : Nat} (H : InOk I A B k1 k a0 a1) (l : Fin 128) (ρ : Fin 32) (r : Fin 8) (hr : r.val = ρ.val / 4) :
    (pk2 Ideal I (ix2 r l)).extractLsb' (8 * (ρ.val % 4)) 8 = codeN (vN A B) (rN I.K a0 a1) (32 * k + ρ.val) (colOf k1 2 l) :=
  packed_byte _ _ _ _ _ _ _ _ _ _ _ _ k _ l (fun ρ => v02_apply H ρ l) (fun ρ => v12_apply H ρ l) (fun r => e02_apply H r l) (fun r => e12_apply H r l)
    (fun r => rnd2 H 0 r l) (fun r => rnd2 H 1 r l) (fun r => rnd2 H 16 r l) (fun r => rnd2 H 17 r l)
    (fun r => rnd2 H 32 r l) (fun r => rnd2 H 33 r l) (fun r => rnd2 H 48 r l) (fun r => rnd2 H 49 r l) ρ r hr

theorem rnd3 {I : In} {A B : Nat → Nat → BitVec 8} {k1 k a0 a1 : Nat} (H : InOk I A B k1 k a0 a1) (e : Nat) (r : Fin 8) (l : Fin 128) :
    (rnd I (BitVec.ofNat 32 (9216 * e))).c3 (ix2 r l) = rN I.K a0 a1 (64 * k + e + 2 * r.val) (colOf k1 3 l) := by
  rw [rN_word _ _ _ _ _ 3 l (by omega), ← rnd_at H e r l]; rfl
theorem pk3_byte {I : In} {A B : Nat → Nat → BitVec 8} {k1 k a0 a1 : Nat} (H : InOk I A B k1 k a0 a1) (l : Fin 128) (ρ : Fin 32) (r : Fin 8) (hr : r.val = ρ.val / 4) :
    (pk3 Ideal I (ix2 r l)).extractLsb' (8 * (ρ.val % 4)) 8 = codeN (vN A B) (rN I.K a0 a1) (32 * k + ρ.val) (colOf k1 3 l) :=
  packed_byte _ _ _ _ _ _ _ _ _ _ _ _ k _ l (fun ρ => v03_apply H ρ l) (fun ρ => v13_apply H ρ l) (fun r => e03_apply H r l) (fun r => e13_apply H r l)
    (fun r => rnd3 H 0 r l) (fun r => rnd3 H 1 r l) (fun r => rnd3 H 16 r l) (fun r => rnd3 H 17 r l)
    (fun r => rnd3 H 32 r l) (fun r => rnd3 H 33 r l) (fun r => rnd3 H 48 r l) (fun r => rnd3 H 49 r l) ρ r hr

/-- The block a pass stores at column 0 of the quad. -/
theorem out0_apply {I : In} {A B : Nat → Nat → BitVec 8} {k1 k a0 a1 : Nat} (H : InOk I A B k1 k a0 a1) (u : Fin 1) (ρ : Fin 32) (l : Fin 128) :
    out0 Ideal I (ix3 u ρ l) = codeN (vN A B) (rN I.K a0 a1) (32 * k + ρ.val) (512 * k1 + 0 + l.val) := by
  unfold out0
  rw [outBlk_apply, qt0_apply]
  have hc : ∀ a b : Nat, a = b → codeN (vN A B) (rN I.K a0 a1) (32 * k + ρ.val) a = codeN (vN A B) (rN I.K a0 a1) (32 * k + ρ.val) b := fun a b e => by rw [e]
  unfold pick
  split_ifs with a b c
  · rw [pk0_byte H _ ρ _ rfl]; apply hc; unfold colOf; dsimp only; omega
  · rw [pk1_byte H _ ρ _ rfl]; apply hc; unfold colOf; dsimp only; omega
  · rw [pk2_byte H _ ρ _ rfl]; apply hc; unfold colOf; dsimp only; omega
  · rw [pk3_byte H _ ρ _ rfl]; apply hc; unfold colOf; dsimp only; omega

/-- The block a pass stores at column 128 of the quad. -/
theorem out1_apply {I : In} {A B : Nat → Nat → BitVec 8} {k1 k a0 a1 : Nat} (H : InOk I A B k1 k a0 a1) (u : Fin 1) (ρ : Fin 32) (l : Fin 128) :
    out1 Ideal I (ix3 u ρ l) = codeN (vN A B) (rN I.K a0 a1) (32 * k + ρ.val) (512 * k1 + 128 + l.val) := by
  unfold out1
  rw [outBlk_apply, qt1_apply]
  have hc : ∀ a b : Nat, a = b → codeN (vN A B) (rN I.K a0 a1) (32 * k + ρ.val) a = codeN (vN A B) (rN I.K a0 a1) (32 * k + ρ.val) b := fun a b e => by rw [e]
  unfold pick
  split_ifs with a b c
  · rw [pk0_byte H _ ρ _ rfl]; apply hc; unfold colOf; dsimp only; omega
  · rw [pk1_byte H _ ρ _ rfl]; apply hc; unfold colOf; dsimp only; omega
  · rw [pk2_byte H _ ρ _ rfl]; apply hc; unfold colOf; dsimp only; omega
  · rw [pk3_byte H _ ρ _ rfl]; apply hc; unfold colOf; dsimp only; omega

/-- The block a pass stores at column 256 of the quad. -/
theorem out2_apply {I : In} {A B : Nat → Nat → BitVec 8} {k1 k a0 a1 : Nat} (H : InOk I A B k1 k a0 a1) (u : Fin 1) (ρ : Fin 32) (l : Fin 128) :
    out2 Ideal I (ix3 u ρ l) = codeN (vN A B) (rN I.K a0 a1) (32 * k + ρ.val) (512 * k1 + 256 + l.val) := by
  unfold out2
  rw [outBlk_apply, qt2_apply]
  have hc : ∀ a b : Nat, a = b → codeN (vN A B) (rN I.K a0 a1) (32 * k + ρ.val) a = codeN (vN A B) (rN I.K a0 a1) (32 * k + ρ.val) b := fun a b e => by rw [e]
  unfold pick
  split_ifs with a b c
  · rw [pk0_byte H _ ρ _ rfl]; apply hc; unfold colOf; dsimp only; omega
  · rw [pk1_byte H _ ρ _ rfl]; apply hc; unfold colOf; dsimp only; omega
  · rw [pk2_byte H _ ρ _ rfl]; apply hc; unfold colOf; dsimp only; omega
  · rw [pk3_byte H _ ρ _ rfl]; apply hc; unfold colOf; dsimp only; omega

/-- The block a pass stores at column 384 of the quad. -/
theorem out3_apply {I : In} {A B : Nat → Nat → BitVec 8} {k1 k a0 a1 : Nat} (H : InOk I A B k1 k a0 a1) (u : Fin 1) (ρ : Fin 32) (l : Fin 128) :
    out3 Ideal I (ix3 u ρ l) = codeN (vN A B) (rN I.K a0 a1) (32 * k + ρ.val) (512 * k1 + 384 + l.val) := by
  unfold out3
  rw [outBlk_apply, qt3_apply]
  have hc : ∀ a b : Nat, a = b → codeN (vN A B) (rN I.K a0 a1) (32 * k + ρ.val) a = codeN (vN A B) (rN I.K a0 a1) (32 * k + ρ.val) b := fun a b e => by rw [e]
  unfold pick
  split_ifs with a b c
  · rw [pk0_byte H _ ρ _ rfl]; apply hc; unfold colOf; dsimp only; omega
  · rw [pk1_byte H _ ρ _ rfl]; apply hc; unfold colOf; dsimp only; omega
  · rw [pk2_byte H _ ρ _ rfl]; apply hc; unfold colOf; dsimp only; omega
  · rw [pk3_byte H _ ρ _ rfl]; apply hc; unfold colOf; dsimp only; omega

end Cert.KernelIdeal.Chunk

end
-- ==== Proof.Scales.lean ====
/- The registers of scales a trip of the outer loop builds from the kept exponents: the groups side by side along the sublanes,
   the scale byte of each, and the transposition back to columns. -/
module

public import proofs.«01_k».proof.Proof.Pass

@[expose] public section

set_option maxRecDepth 16384

noncomputable section

namespace Cert.KernelIdeal.Chunk

open Cert.KernelIdeal
open Cert.KernelIdeal.Gen
open Idealize.ShloMosaic Idealize.ShloMosaic.ValueIdx Idealize.SL.Sem

/-- A loaded register. -/
def flat (a : IVec S1x1x8x128 32) : W := shapeCast S8x128 a shapeCasts_S1x1x8x128_S8x128
/-- One more group's register put on its sublane. -/
def put (v40 : W) (n : BitVec 32) (a : IVec S1x1x8x128 32) (x : W) : W := select (cmpi .eq v40 (bc n)) (flat a) x
/-- The first eight groups, and the last four, on their sublanes. -/
def reg8 (v40 : W) (L : Nat → IVec S1x1x8x128 32) : W :=
  put v40 7#32 (L 7) (put v40 6#32 (L 6) (put v40 5#32 (L 5) (put v40 4#32 (L 4) (put v40 3#32 (L 3) (put v40 2#32 (L 2) (put v40 1#32 (L 1) (flat (L 0))))))))
def reg4 (v40 : W) (L : Nat → IVec S1x1x8x128 32) : W :=
  put v40 3#32 (L 11) (put v40 2#32 (L 10) (put v40 1#32 (L 9) (flat (L 8))))
/-- The scale byte of each exponent. -/
def sbyte (w : W) : W := andi (select (cmpi .eq w (bc 0#32)) (bc 127#32) (subi w (bc 2#32))) (bc 255#32)
/-- A block of twelve rows of scale bytes from its two registers. -/
def sblk (t0 t1 : W) : IVec S1x12x128 8 :=
  shapeCast S1x12x128 (trunci 8 (extractStridedSlice S12x128 ![0, 0] (concatenate S16x128 0 [⟨S8x128, t0⟩, ⟨S8x128, t1⟩]
    concatenates_S8x128_S8x128_S16x128_d0) slices_S16x128_o0_0_S12x128) natLt_8_32) shapeCasts_S12x128_S1x12x128
def tile0 (v40 : W) (L : Nat → Nat → IVec S1x1x8x128 32) (j : Nat) : W := sbyte (reg8 v40 fun g => L g j)
def tile1 (v40 : W) (L : Nat → Nat → IVec S1x1x8x128 32) (j : Nat) : W := sbyte (reg4 v40 fun g => L g j)
/-- The four blocks of a trip. -/
def sb0 (v40 : W) (L : Nat → Nat → IVec S1x1x8x128 32) : IVec S1x12x128 8 :=
  sblk (qt0 (tile0 v40 L 0) (tile0 v40 L 1) (tile0 v40 L 2) (tile0 v40 L 3)) (qt0 (tile1 v40 L 0) (tile1 v40 L 1) (tile1 v40 L 2) (tile1 v40 L 3))
def sb1 (v40 : W) (L : Nat → Nat → IVec S1x1x8x128 32) : IVec S1x12x128 8 :=
  sblk (qt1 (tile0 v40 L 0) (tile0 v40 L 1) (tile0 v40 L 2) (tile0 v40 L 3)) (qt1 (tile1 v40 L 0) (tile1 v40 L 1) (tile1 v40 L 2) (tile1 v40 L 3))
def sb2 (v40 : W) (L : Nat → Nat → IVec S1x1x8x128 32) : IVec S1x12x128 8 :=
  sblk (qt2 (tile0 v40 L 0) (tile0 v40 L 1) (tile0 v40 L 2) (tile0 v40 L 3)) (qt2 (tile1 v40 L 0) (tile1 v40 L 1) (tile1 v40 L 2) (tile1 v40 L 3))
def sb3 (v40 : W) (L : Nat → Nat → IVec S1x1x8x128 32) : IVec S1x12x128 8 :=
  sblk (qt3 (tile0 v40 L 0) (tile0 v40 L 1) (tile0 v40 L 2) (tile0 v40 L 3)) (qt3 (tile1 v40 L 0) (tile1 v40 L 1) (tile1 v40 L 2) (tile1 v40 L 3))

/-- The scale byte of an exponent. -/
def scaleByte (e : BitVec 32) : BitVec 32 := (if e = 0#32 then 127#32 else e - 2#32) &&& 255#32

theorem sbyte_apply (w : W) (r : Fin 8) (l : Fin 128) : sbyte w (ix2 r l) = scaleByte (w (ix2 r l)) := by
  unfold sbyte scaleByte
  show IntOp.andi (if IntOp.cmpi .eq (w (ix2 r l)) 0#32 = 1#1 then 127#32 else IntOp.subi (w (ix2 r l)) 2#32) 255#32 = _
  by_cases h : w (ix2 r l) = 0#32
  · simp [h, IntOp.cmpi, IntOp.andi, IntOp.subi]
  · have h' : (w (ix2 r l) == 0#32) = false := by simpa using h
    simp [h, h', IntOp.cmpi, IntOp.andi, IntOp.subi]

/-- The sublane's number. -/
def rowIota : W := iota .tc S8x128 32 [0] iota_S8x128_d0_w32

theorem flat_apply (a : IVec S1x1x8x128 32) (r : Fin 8) (l : Fin 128) : flat a (ix2 r l) = a (ix4 0 0 r l) := by
  unfold flat
  rw [shapeCast_apply _ _ (ix2 r l) (ix4 0 0 r l) (by
    rw [Shape.rowMajor_val_four, Shape.rowMajor_val_two]
    show ((0 * 1 + 0) * 8 + r.val) * 128 + l.val = r.val * 128 + l.val
    omega)]

theorem rowIota_apply (r : Fin 8) (l : Fin 128) : rowIota (ix2 r l) = BitVec.ofNat 32 r.val := by
  unfold rowIota
  rw [iota_single_apply]

theorem put_apply (n : Nat) (hn : n < 8) (a : IVec S1x1x8x128 32) (x : W) (r : Fin 8) (l : Fin 128) :
    put rowIota (BitVec.ofNat 32 n) a x (ix2 r l) = if r.val = n then a (ix4 0 0 r l) else x (ix2 r l) := by
  unfold put
  show (if IntOp.cmpi .eq (rowIota (ix2 r l)) (BitVec.ofNat 32 n) = 1#1 then flat a (ix2 r l) else x (ix2 r l)) = _
  rw [flat_apply, rowIota_apply]
  have h : (IntOp.cmpi .eq (BitVec.ofNat 32 r.val) (BitVec.ofNat 32 n) = 1#1) ↔ r.val = n := by
    clear x a l
    revert r; interval_cases n <;> decide
  simp only [h]

theorem reg8_apply (L : Nat → IVec S1x1x8x128 32) (r : Fin 8) (l : Fin 128) : reg8 rowIota L (ix2 r l) = L r.val (ix4 0 0 r l) := by
  have hr := r.isLt
  unfold reg8
  rw [put_apply 7 (by omega), put_apply 6 (by omega), put_apply 5 (by omega), put_apply 4 (by omega), put_apply 3 (by omega), put_apply 2 (by omega),
    put_apply 1 (by omega), flat_apply]
  split_ifs with h7 h6 h5 h4 h3 h2 h1
  · rw [h7]
  · rw [h6]
  · rw [h5]
  · rw [h4]
  · rw [h3]
  · rw [h2]
  · rw [h1]
  · rw [show r.val = 0 by omega]

theorem reg4_apply (L : Nat → IVec S1x1x8x128 32) (r : Fin 8) (l : Fin 128) (h4 : r.val < 4) : reg4 rowIota L (ix2 r l) = L (8 + r.val) (ix4 0 0 r l) := by
  unfold reg4
  rw [put_apply 3 (by omega), put_apply 2 (by omega), put_apply 1 (by omega), flat_apply]
  split_ifs with h3 h2 h1
  · rw [h3]
  · rw [h2]
  · rw [h1]
  · rw [show r.val = 0 by omega]

theorem sblk_lo (t0 t1 : W) (u : Fin 1) (g : Fin 12) (l : Fin 128) (h : g.val < 8) :
    sblk t0 t1 (ix3 u g l) = (t0 (ix2 ⟨g.val, h⟩ l)).setWidth 8 := by
  unfold sblk
  rw [shapeCast_ab_1ab_apply]
  show BitVec.setWidth 8 (extractStridedSlice (s := S16x128) S12x128 ![0, 0] _ _ (ix2 g l)) = _
  congr 1
  rw [extractStridedSlice_apply (s := S16x128) ![0, 0] _ _ (ix2 g l) (ix2 (⟨g.val, by omega⟩ : Fin 16) l) (by
    intro a
    match a with
    | ⟨0, _⟩ => show g.val = 0 + g.val; omega
    | ⟨1, _⟩ => show l.val = 0 + l.val; omega)]
  refine concatenate_apply_piece 0 [⟨S8x128, t0⟩, ⟨S8x128, t1⟩] _ (ix2 (⟨g.val, by omega⟩ : Fin 16) l) 0 (by simp) S8x128 t0 rfl rfl 0 rfl _ ?_ ?_
  · intro b hb
    match b with
    | ⟨0, _⟩ => exact absurd rfl hb
    | ⟨1, _⟩ => rfl
  · show 0 + g.val = g.val; omega

theorem sblk_hi (t0 t1 : W) (u : Fin 1) (g : Fin 12) (l : Fin 128) (h : 8 ≤ g.val) :
    sblk t0 t1 (ix3 u g l) = (t1 (ix2 ⟨g.val - 8, by omega⟩ l)).setWidth 8 := by
  unfold sblk
  rw [shapeCast_ab_1ab_apply]
  show BitVec.setWidth 8 (extractStridedSlice (s := S16x128) S12x128 ![0, 0] _ _ (ix2 g l)) = _
  congr 1
  rw [extractStridedSlice_apply (s := S16x128) ![0, 0] _ _ (ix2 g l) (ix2 (⟨g.val, by omega⟩ : Fin 16) l) (by
    intro a
    match a with
    | ⟨0, _⟩ => show g.val = 0 + g.val; omega
    | ⟨1, _⟩ => show l.val = 0 + l.val; omega)]
  refine concatenate_apply_piece 0 [⟨S8x128, t0⟩, ⟨S8x128, t1⟩] _ (ix2 (⟨g.val, by omega⟩ : Fin 16) l) 1 (by simp) S8x128 t1 rfl rfl 8 rfl _ ?_ ?_
  · intro b hb
    match b with
    | ⟨0, _⟩ => exact absurd rfl hb
    | ⟨1, _⟩ => rfl
  · show 8 + (g.val - 8) = g.val; omega

theorem pick_lt (m : Nat) (hm : m < 4) {α : Type} (f : Nat → α) : pick m (f 0) (f 1) (f 2) (f 3) = f m := by
  interval_cases m <;> rfl

/-- The stored scale byte, from the exponents kept in the scratch. -/
theorem sb_apply (qt : W → W → W → W → W) (q : Nat) (hq : q < 4)
    (hqt : ∀ x0 x1 x2 x3 r (l : Fin 128), qt x0 x1 x2 x3 (ix2 r l) = (pick (l.val % 4) x0 x1 x2 x3) (ix2 r (ln l q hq)))
    (L : Nat → Nat → IVec S1x1x8x128 32) (V : Nat → Nat → EReal) (k1 : Nat)
    (hL : ∀ g < 12, ∀ j < 4, ∀ (r : Fin 8) (l : Fin 128), L g j (ix4 0 0 r l) = ebN V g (512 * k1 + 128 * (l.val % 4) + (l.val / 4 * 4 + j)))
    (u : Fin 1) (g : Fin 12) (l : Fin 128) :
    sblk (qt (tile0 rowIota L 0) (tile0 rowIota L 1) (tile0 rowIota L 2) (tile0 rowIota L 3))
      (qt (tile1 rowIota L 0) (tile1 rowIota L 1) (tile1 rowIota L 2) (tile1 rowIota L 3)) (ix3 u g l)
      = (scaleByte (ebN V g.val (512 * k1 + 128 * q + l.val))).setWidth 8 := by
  have hl := l.isLt
  have hg := g.isLt
  by_cases h : g.val < 8
  · rw [sblk_lo _ _ u g l h, hqt, pick_lt (l.val % 4) (by omega) (tile0 rowIota L)]
    unfold tile0
    rw [sbyte_apply, reg8_apply, hL _ (by dsimp only; omega) _ (by omega)]
    congr 3
    unfold ln
    dsimp only
    omega
  · rw [sblk_hi _ _ u g l (by omega), hqt, pick_lt (l.val % 4) (by omega) (tile1 rowIota L)]
    unfold tile1
    rw [sbyte_apply, reg4_apply _ _ _ (by dsimp only; omega), hL _ (by dsimp only; omega) _ (by omega)]
    congr 3
    · dsimp only; omega
    · unfold ln
      dsimp only
      omega

end Cert.KernelIdeal.Chunk

end
-- ==== Proof.Trip.lean ====
/- What one pass of the inner loop of the kernel's idealisation stores, as lists of pieces: four blocks of bytes in the
   result, eight registers of exponents in the scratch. -/
module

public import proofs.«01_k».proof.Proof.Chunk
public import proofs.«01_k».proof.Proof.Gen.KernelIdeal.Loops

@[expose] public section

set_option maxRecDepth 16384

noncomputable section

namespace Cert.KernelIdeal.Chunk

open Cert.KernelIdeal.Gen
open Idealize.ShloMosaic Idealize.ShloMosaic.TcCoe Idealize.ShloMosaic.Tactic Idealize.SL.Sem

variable {F : FTy → Type} [FloatOps F]

/-- What pass `k` of quad `k0_t1` reads. -/
def inOf (arg3 : Memref sig .tc .vmem S1x384x4096 .i8) (arg4 : Memref sig .tc .vmem S1x384x128 .i8) (arg0 arg1 : BitVec 32)
    (v1 v3 v5 v7 v9 v11 v13 v15 v17 v19 v21 v23 v25 v27 v29 v31 v33 v35 v37 v39 : BitVec 32) (v51 v58 : IVec S8x128 32)
    (k0_t1 : Fin k0_t1_loop.trips) (arg8 : BitVec 32) (X_arg3 : BufTy.Contents (Elt F) arg3.view.ty)
    (X_arg4 : BufTy.Contents (Elt F) arg4.view.ty) (k : Fin k0_t2_loop.trips) : In :=
  ⟨⟨v1, v3, v5, v7, v9, v11, v13, v15, v17, v19, v21, v23, v25, v27, v29, v31, v33, v35, v37, v39⟩, v51, v58, arg8,
   Scalar.addi (Scalar.addi (Scalar.muli (Scalar.addi (Scalar.muli arg0 384#32) (Scalar.muli (Scf.iv 0#32 1#32 k) 64#32)) 9216#32)
     (Scalar.muli arg1 1024#32)) (Scalar.muli arg8 128#32),
   (View.readAt (Elt F) arg3.view (Rect.unit (s := S1x384x4096) (k0_off1 k0_t1 k 0#32 0#32) S1x32x128.size (k0_off1_inb k0_t1 k 0 0)).toLoadRect X_arg3),
   (View.readAt (Elt F) arg3.view (Rect.unit (s := S1x384x4096) (k0_off1 k0_t1 k 0#32 128#32) S1x32x128.size (k0_off1_inb k0_t1 k 0 1)).toLoadRect X_arg3),
   (View.readAt (Elt F) arg3.view (Rect.unit (s := S1x384x4096) (k0_off1 k0_t1 k 0#32 256#32) S1x32x128.size (k0_off1_inb k0_t1 k 0 2)).toLoadRect X_arg3),
   (View.readAt (Elt F) arg3.view (Rect.unit (s := S1x384x4096) (k0_off1 k0_t1 k 0#32 384#32) S1x32x128.size (k0_off1_inb k0_t1 k 0 3)).toLoadRect X_arg3),
   (View.readAt (Elt F) arg3.view (Rect.unit (s := S1x384x4096) (k0_off1 k0_t1 k 32#32 0#32) S1x32x128.size (k0_off1_inb k0_t1 k 1 0)).toLoadRect X_arg3),
   (View.readAt (Elt F) arg3.view (Rect.unit (s := S1x384x4096) (k0_off1 k0_t1 k 32#32 128#32) S1x32x128.size (k0_off1_inb k0_t1 k 1 1)).toLoadRect X_arg3),
   (View.readAt (Elt F) arg3.view (Rect.unit (s := S1x384x4096) (k0_off1 k0_t1 k 32#32 256#32) S1x32x128.size (k0_off1_inb k0_t1 k 1 2)).toLoadRect X_arg3),
   (View.readAt (Elt F) arg3.view (Rect.unit (s := S1x384x4096) (k0_off1 k0_t1 k 32#32 384#32) S1x32x128.size (k0_off1_inb k0_t1 k 1 3)).toLoadRect X_arg3),
   (View.readAt (Elt F) arg4.view (Rect.unit (s := S1x384x128) (k0_off2 k 0#32) S1x32x128.size (k0_off2_inb k 0)).toLoadRect X_arg4),
   (View.readAt (Elt F) arg4.view (Rect.unit (s := S1x384x128) (k0_off2 k 32#32) S1x32x128.size (k0_off2_inb k 1)).toLoadRect X_arg4)⟩

/-- The pieces of the result. -/
def pieces5 (k0_t1 : Fin k0_t1_loop.trips) (k : Fin k0_t2_loop.trips) (F : FTy → Type) [FloatOps F] (I : In) : List (View.Piece (Elt F) S1x192x4096 .i8) :=
  [⟨Rect.unit (s := S1x192x4096) (k0_off7 k0_t1 k 384#32) S1x32x128.size (k0_off7_inb k0_t1 k 3), out3 F I⟩,
   ⟨Rect.unit (s := S1x192x4096) (k0_off7 k0_t1 k 256#32) S1x32x128.size (k0_off7_inb k0_t1 k 2), out2 F I⟩,
   ⟨Rect.unit (s := S1x192x4096) (k0_off7 k0_t1 k 128#32) S1x32x128.size (k0_off7_inb k0_t1 k 1), out1 F I⟩,
   ⟨Rect.unit (s := S1x192x4096) (k0_off7 k0_t1 k 0#32) S1x32x128.size (k0_off7_inb k0_t1 k 0), out0 F I⟩]

/-- The pieces of the scratch. -/
def pieces7 (k : Fin k0_t2_loop.trips) (F : FTy → Type) [FloatOps F] (I : In) : List (View.Piece (Elt F) S12x4x8x128 .i32) :=
  [⟨Rect.unit (s := S12x4x8x128) (k0_off6 k 1#32) S1x1x8x128.size (k0_off6_inb k 1), ebBlk (expOf (F := F) (v13 I))⟩,
   ⟨Rect.unit (s := S12x4x8x128) (k0_off5 k 1#32) S1x1x8x128.size (k0_off5_inb k 1), ebBlk (expOf (F := F) (v12 I))⟩,
   ⟨Rect.unit (s := S12x4x8x128) (k0_off4 k 1#32) S1x1x8x128.size (k0_off4_inb k 1), ebBlk (expOf (F := F) (v11 I))⟩,
   ⟨Rect.unit (s := S12x4x8x128) (k0_off3 k 1#32) S1x1x8x128.size (k0_off3_inb k 1), ebBlk (expOf (F := F) (v10 I))⟩,
   ⟨Rect.unit (s := S12x4x8x128) (k0_off6 k 0#32) S1x1x8x128.size (k0_off6_inb k 0), ebBlk (expOf (F := F) (v03 I))⟩,
   ⟨Rect.unit (s := S12x4x8x128) (k0_off5 k 0#32) S1x1x8x128.size (k0_off5_inb k 0), ebBlk (expOf (F := F) (v02 I))⟩,
   ⟨Rect.unit (s := S12x4x8x128) (k0_off4 k 0#32) S1x1x8x128.size (k0_off4_inb k 0), ebBlk (expOf (F := F) (v01 I))⟩,
   ⟨Rect.unit (s := S12x4x8x128) (k0_off3 k 0#32) S1x1x8x128.size (k0_off3_inb k 0), ebBlk (expOf (F := F) (v00 I))⟩]

theorem trip5 (𝒱 : Variants) (c : Dev nD) (bd : Option 𝒱.V) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole) (arg0 : BitVec 32) (arg1 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v40 : IVec S8x128 32) (v51 : IVec S8x128 32) (v58 : IVec S8x128 32) (c0_i32_20 : BitVec 32) (c1_i32 : BitVec 32) (k0_t1 : Fin k0_t1_loop.trips) (arg8 : BitVec 32) (v61 : BitVec 32) (X_arg3 : BufTy.Contents (Elt F) arg3.view.ty) (X_arg4 : BufTy.Contents (Elt F) arg4.view.ty) (k : Fin k0_t2_loop.trips) :
    (trip_k0_t2 (F := F) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 k).1 = pieces5 k0_t1 k F (inOf (F := F) arg3 arg4 arg0 arg1 v1 v3 v5 v7 v9 v11 v13 v15 v17 v19 v21 v23 v25 v27 v29 v31 v33 v35 v37 v39 v51 v58 k0_t1 arg8 X_arg3 X_arg4 k) := by
  sl_kernel_rfl

theorem trip7 (𝒱 : Variants) (c : Dev nD) (bd : Option 𝒱.V) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole) (arg0 : BitVec 32) (arg1 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v40 : IVec S8x128 32) (v51 : IVec S8x128 32) (v58 : IVec S8x128 32) (c0_i32_20 : BitVec 32) (c1_i32 : BitVec 32) (k0_t1 : Fin k0_t1_loop.trips) (arg8 : BitVec 32) (v61 : BitVec 32) (X_arg3 : BufTy.Contents (Elt F) arg3.view.ty) (X_arg4 : BufTy.Contents (Elt F) arg4.view.ty) (k : Fin k0_t2_loop.trips) :
    (trip_k0_t2 (F := F) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 k).2.1 = pieces7 k F (inOf (F := F) arg3 arg4 arg0 arg1 v1 v3 v5 v7 v9 v11 v13 v15 v17 v19 v21 v23 v25 v27 v29 v31 v33 v35 v37 v39 v51 v58 k0_t1 arg8 X_arg3 X_arg4 k) := by
  sl_kernel_rfl

end Cert.KernelIdeal.Chunk

end
-- ==== Proof.Cover.lean ====
/- What the stores of the kernel's two loops leave in the result blocks and the scratch, as functions of the index. -/
module

public import proofs.«01_k».proof.Proof.Scales
public import proofs.«01_k».proof.Proof.Trip

@[expose] public section

set_option maxRecDepth 16384

noncomputable section

namespace Cert.KernelIdeal.Chunk

open Cert.KernelIdeal
open Cert.KernelIdeal.Gen
open Idealize.ShloMosaic Idealize.ShloMosaic.ValueIdx Idealize.ShloMosaic.TcCoe Idealize.ShloMosaic.Tactic Idealize.SL.Sem

/-- The codes and the scales of a block, by row and column. -/
def codesN (x : S1x384x4096.Idx → BitVec 8) (s c : Nat) : BitVec 8 := if h : s < 384 ∧ c < 4096 then x (ix3 0 ⟨s, h.1⟩ ⟨c, h.2⟩) else 0#8
def scalesN (x : S1x384x128.Idx → BitVec 8) (s c : Nat) : BitVec 8 := if h : s < 384 ∧ c < 128 then x (ix3 0 ⟨s, h.1⟩ ⟨c, h.2⟩) else 0#8
/-- The values of a block. -/
def valN (x3 : S1x384x4096.Idx → BitVec 8) (x4 : S1x384x128.Idx → BitVec 8) : Nat → Nat → EReal := vN (codesN x3) (scalesN x4)
/-- The block of bytes, and the block of scale bytes. -/
def spec5 (i : grid0.Coords) (K : Keys) (x3 : S1x384x4096.Idx → BitVec 8) (x4 : S1x384x128.Idx → BitVec 8) : S1x192x4096.Idx → BitVec 8 :=
  fun y => codeN (valN x3 x4) (rN K (i 0).val (i 1).val) (y 1).val (y 2).val
def spec6 (x3 : S1x384x4096.Idx → BitVec 8) (x4 : S1x384x128.Idx → BitVec 8) : S1x12x4096.Idx → BitVec 8 :=
  fun y => (scaleByte (ebN (valN x3 x4) (y 1).val (y 2).val)).setWidth 8

/-- What holds of the block of bytes before trip `k`: nothing at the first, after it the bytes of the columns of the trips before.
    The equation's right side is `True`, so that the first case is an identity. -/
def Good5 (i : grid0.Coords) (K : Keys) (v40 : IVec S8x128 32) (arg0 arg1 : BitVec 32) (x3 : S1x384x4096.Idx → BitVec 8) (x4 : S1x384x128.Idx → BitVec 8)
    (y5 : S1x192x4096.Idx → BitVec 8) : Nat → Prop
  | 0 => True
  | k + 1 => v40 = rowIota → arg0 = BitVec.ofNat 32 (i 0).val → arg1 = BitVec.ofNat 32 (i 1).val →
      ∀ y : S1x192x4096.Idx, (y 2).val < 512 * (k + 1) → y5 y = spec5 i K x3 x4 y
/-- The same of the block of scale bytes. -/
def Good6 (i : grid0.Coords) (v40 : IVec S8x128 32) (arg0 arg1 : BitVec 32) (x3 : S1x384x4096.Idx → BitVec 8) (x4 : S1x384x128.Idx → BitVec 8)
    (y6 : S1x12x4096.Idx → BitVec 8) : Nat → Prop
  | 0 => True
  | k + 1 => v40 = rowIota → arg0 = BitVec.ofNat 32 (i 0).val → arg1 = BitVec.ofNat 32 (i 1).val →
      ∀ y : S1x12x4096.Idx, (y 2).val < 512 * (k + 1) → y6 y = spec6 x3 x4 y

theorem Good5.get {i : grid0.Coords} {K : Keys} {v40 : IVec S8x128 32} {arg0 arg1 : BitVec 32} {x3 : S1x384x4096.Idx → BitVec 8} {x4 : S1x384x128.Idx → BitVec 8}
    {y5 : S1x192x4096.Idx → BitVec 8} : ∀ {k : Nat}, Good5 i K v40 arg0 arg1 x3 x4 y5 k = True → v40 = rowIota → arg0 = BitVec.ofNat 32 (i 0).val →
      arg1 = BitVec.ofNat 32 (i 1).val → ∀ y : S1x192x4096.Idx, (y 2).val < 512 * k → y5 y = spec5 i K x3 x4 y
  | 0, _, _, _, _, _, hy => absurd hy (Nat.not_lt_zero _)
  | _ + 1, h, h40, h0, h1, y, hy => of_eq_true h h40 h0 h1 y hy
theorem Good6.get {i : grid0.Coords} {v40 : IVec S8x128 32} {arg0 arg1 : BitVec 32} {x3 : S1x384x4096.Idx → BitVec 8} {x4 : S1x384x128.Idx → BitVec 8}
    {y6 : S1x12x4096.Idx → BitVec 8} : ∀ {k : Nat}, Good6 i v40 arg0 arg1 x3 x4 y6 k = True → v40 = rowIota → arg0 = BitVec.ofNat 32 (i 0).val →
      arg1 = BitVec.ofNat 32 (i 1).val → ∀ y : S1x12x4096.Idx, (y 2).val < 512 * k → y6 y = spec6 x3 x4 y
  | 0, _, _, _, _, _, hy => absurd hy (Nat.not_lt_zero _)
  | _ + 1, h, h40, h0, h1, y, hy => of_eq_true h h40 h0 h1 y hy

/-! ## Stores that agree with one function of the index -/

section
variable {sig' : RefSig} {κ : Kind} {sp : Space} {s : Shape} {e : EltTy} {Val : EltTy → Type}

/-- Stores whose payloads are restrictions of one function leave that function wherever they reach or it was held before. -/
theorem writes_spec (v : View sig' κ sp s e) (S : s.Idx → Val e) (f : v.ty.Contents Val) (y : s.Idx) :
    ∀ (L : List (View.Piece Val s e)), (∀ p ∈ L, ∀ x, p.2 x = S (p.1.emb x)) → ((∃ p ∈ L, y ∈ p.1.set) ∨ v.read Val f y = S y) →
      v.read Val (v.writes Val f L) y = S y
  | [], _, h => by
      rcases h with ⟨_, hm, _⟩ | h
      · exact absurd hm List.not_mem_nil
      · exact h
  | p :: L, hL, h => by
      by_cases hy : y ∈ p.1.set
      · obtain ⟨r, w⟩ := p
        obtain ⟨x, rfl⟩ : ∃ x, r.emb x = y := r.exists_idx_of_mem hy
        rw [View.read_writes_cons_emb]
        exact hL ⟨r, w⟩ (List.mem_cons_self ..) x
      · have hy' : y ∉ Finset.univ.map p.1.emb := by rwa [Rect.map_emb_univ]
        rw [View.writes_cons, View.read_slice_write_of_not_mem p.1 _ _ _ hy']
        refine writes_spec v S f y L (fun q hq => hL q (List.mem_cons_of_mem _ hq)) ?_
        rcases h with ⟨q, hq, hyq⟩ | h
        · rcases List.mem_cons.mp hq with rfl | hq
          · exact absurd hyq hy
          · exact .inl ⟨q, hq, hyq⟩
        · exact .inr h
end

/-! ## The offsets -/

theorem iv1 : ∀ k : Fin k0_t1_loop.trips, Scf.iv 0#32 1#32 k = BitVec.ofNat 32 k.val := by decide +kernel
theorem iv2 : ∀ k : Fin k0_t2_loop.trips, Scf.iv 0#32 1#32 k = BitVec.ofNat 32 k.val := by decide +kernel
theorem lt1 : ∀ k : Fin k0_t1_loop.trips, k.val < 8 := by decide +kernel
theorem lt2 : ∀ k : Fin k0_t2_loop.trips, k.val < 6 := by decide +kernel
theorem trips2 : k0_t2_loop.trips = 6 := by decide +kernel

theorem off1 : ∀ (k1 : Fin k0_t1_loop.trips) (k : Fin k0_t2_loop.trips) (r : Fin 2) (q : Fin 4),
    k0_off1 k1 k (BitVec.ofNat 32 (32 * r.val)) (BitVec.ofNat 32 (128 * q.val)) = ![0, 64 * k.val + 32 * r.val, 512 * k1.val + 128 * q.val] := by decide +kernel
theorem off2 : ∀ (k : Fin k0_t2_loop.trips) (r : Fin 2), k0_off2 k (BitVec.ofNat 32 (32 * r.val)) = ![0, 64 * k.val + 32 * r.val, 0] := by decide +kernel
theorem off3 : ∀ (k : Fin k0_t2_loop.trips) (g : Fin 2), k0_off3 k (BitVec.ofNat 32 g.val) = ![2 * k.val + g.val, 0, 0, 0] := by decide +kernel
theorem off4 : ∀ (k : Fin k0_t2_loop.trips) (g : Fin 2), k0_off4 k (BitVec.ofNat 32 g.val) = ![2 * k.val + g.val, 1, 0, 0] := by decide +kernel
theorem off5 : ∀ (k : Fin k0_t2_loop.trips) (g : Fin 2), k0_off5 k (BitVec.ofNat 32 g.val) = ![2 * k.val + g.val, 2, 0, 0] := by decide +kernel
theorem off6 : ∀ (k : Fin k0_t2_loop.trips) (g : Fin 2), k0_off6 k (BitVec.ofNat 32 g.val) = ![2 * k.val + g.val, 3, 0, 0] := by decide +kernel
theorem off7 : ∀ (k1 : Fin k0_t1_loop.trips) (k : Fin k0_t2_loop.trips) (q : Fin 4),
    k0_off7 k1 k (BitVec.ofNat 32 (128 * q.val)) = ![0, 32 * k.val, 512 * k1.val + 128 * q.val] := by decide +kernel
theorem off8 : ∀ (k1 : Fin k0_t1_loop.trips) (q : Fin 4), k0_off8 k1 (BitVec.ofNat 32 (128 * q.val)) = ![0, 0, 512 * k1.val + 128 * q.val] := by decide +kernel

/-! ## What a pass reads -/

theorem rdX (v : View sig .tc .vmem S1x384x4096 .i8) (X : v.ty.Contents (Elt Ideal)) (off : Fin 3 → Nat) (inb : ∀ a, off a + S1x32x128.size a ≤ S1x384x4096.size a)
    (s c : Nat) (h : off = ![0, s, c]) (ρ : Fin 32) (l : Fin 128) :
    View.readAt (Elt Ideal) v (Rect.unit (s := S1x384x4096) off S1x32x128.size inb).toLoadRect X (ix3 0 ρ l) = codesN (v.read (Elt Ideal) X) (s + ρ.val) (c + l.val) := by
  subst h
  have h1 : s + 32 ≤ 384 := inb 1
  have h2 : c + 128 ≤ 4096 := inb 2
  have hb : s + ρ.val < 384 ∧ c + l.val < 4096 := by omega
  unfold codesN
  rw [dif_pos hb]
  show v.read (Elt Ideal) X _ = v.read (Elt Ideal) X _
  congr 1
  funext a
  match a with
  | ⟨0, _⟩ => exact Fin.ext (show 0 + 1 * 0 = 0 from rfl)
  | ⟨1, _⟩ => exact Fin.ext (show s + 1 * ρ.val = s + ρ.val by omega)
  | ⟨2, _⟩ => exact Fin.ext (show c + 1 * l.val = c + l.val by omega)

theorem rdS (v : View sig .tc .vmem S1x384x128 .i8) (X : v.ty.Contents (Elt Ideal)) (off : Fin 3 → Nat) (inb : ∀ a, off a + S1x32x128.size a ≤ S1x384x128.size a)
    (s : Nat) (h : off = ![0, s, 0]) (ρ : Fin 32) (l : Fin 128) :
    View.readAt (Elt Ideal) v (Rect.unit (s := S1x384x128) off S1x32x128.size inb).toLoadRect X (ix3 0 ρ l) = scalesN (v.read (Elt Ideal) X) (s + ρ.val) l.val := by
  subst h
  have h1 : s + 32 ≤ 384 := inb 1
  have hb : s + ρ.val < 384 ∧ l.val < 128 := by omega
  unfold scalesN
  rw [dif_pos hb]
  show v.read (Elt Ideal) X _ = v.read (Elt Ideal) X _
  congr 1
  funext a
  match a with
  | ⟨0, _⟩ => exact Fin.ext (show 0 + 1 * 0 = 0 from rfl)
  | ⟨1, _⟩ => exact Fin.ext (show s + 1 * ρ.val = s + ρ.val by omega)
  | ⟨2, _⟩ => exact Fin.ext (show 0 + 1 * l.val = l.val by omega)

theorem pay1_apply (r : Fin 8) (l : Fin 128) : k0_pay1 (ix2 r l) = BitVec.ofNat 32 (18432 * r.val + (l.val % 4) * 32 + l.val / 4) := by
  have e0 : (iota .tc S8x128 32 [0] iota_S8x128_d0_w32 : IVec S8x128 32) (ix2 r l) = BitVec.ofNat 32 r.val := by rw [iota_single_apply]
  have e1 : (iota .tc S8x128 32 [1] iota_S8x128_d1_w32 : IVec S8x128 32) (ix2 r l) = BitVec.ofNat 32 l.val := by rw [iota_single_apply]
  show IntOp.addi (IntOp.addi (IntOp.muli ((iota .tc S8x128 32 [0] iota_S8x128_d0_w32 : IVec S8x128 32) (ix2 r l)) 18432#32)
    (IntOp.muli (IntOp.andi ((iota .tc S8x128 32 [1] iota_S8x128_d1_w32 : IVec S8x128 32) (ix2 r l)) 3#32) 32#32))
    (IntOp.shrsi .vector ((iota .tc S8x128 32 [1] iota_S8x128_d1_w32 : IVec S8x128 32) (ix2 r l)) 2#32) = _
  rw [e0, e1]
  clear e0 e1
  revert r l
  decide +kernel

theorem pay2_apply (r : Fin 8) (l : Fin 128) : k0_pay2 (ix2 r l) = BitVec.ofNat 32 ((l.val % 4) * 4 + l.val / 32) := by
  have e1 : (iota .tc S8x128 32 [1] iota_S8x128_d1_w32 : IVec S8x128 32) (ix2 r l) = BitVec.ofNat 32 l.val := by rw [iota_single_apply]
  show IntOp.addi
    (IntOp.muli (IntOp.andi ((iota .tc S8x128 32 [1] iota_S8x128_d1_w32 : IVec S8x128 32) (ix2 r l)) 3#32) 4#32)
    (IntOp.shrsi .vector ((iota .tc S8x128 32 [1] iota_S8x128_d1_w32 : IVec S8x128 32) (ix2 r l)) 5#32) = _
  rw [e1]
  clear e1
  revert l
  decide +kernel

theorem base_eq (a0 a1 k k1 : Nat) :
    Scalar.addi (Scalar.addi (Scalar.muli (Scalar.addi (Scalar.muli (BitVec.ofNat 32 a0) 384#32) (Scalar.muli (BitVec.ofNat 32 k) 64#32)) 9216#32)
     (Scalar.muli (BitVec.ofNat 32 a1) 1024#32)) (Scalar.muli (BitVec.ofNat 32 k1) 128#32) = BitVec.ofNat 32 ((a0 * 384 + 64 * k) * 9216 + a1 * 1024 + k1 * 128) := by
  show ((BitVec.ofNat 32 a0 * BitVec.ofNat 32 384 + BitVec.ofNat 32 k * BitVec.ofNat 32 64) * BitVec.ofNat 32 9216 + BitVec.ofNat 32 a1 * BitVec.ofNat 32 1024) + BitVec.ofNat 32 k1 * BitVec.ofNat 32 128 = _
  rw [← BitVec.ofNat_mul, ← BitVec.ofNat_mul, ← BitVec.ofNat_add, ← BitVec.ofNat_mul, ← BitVec.ofNat_mul, ← BitVec.ofNat_mul, ← BitVec.ofNat_add, ← BitVec.ofNat_add, Nat.mul_comm k 64]

/-- What pass `k` of trip `k1` reads, in terms of the codes and the scales. -/
theorem inOf_ok (arg3 : Memref sig .tc .vmem S1x384x4096 .i8) (arg4 : Memref sig .tc .vmem S1x384x128 .i8) (arg0 arg1 : BitVec 32)
    (v1 v3 v5 v7 v9 v11 v13 v15 v17 v19 v21 v23 v25 v27 v29 v31 v33 v35 v37 v39 : BitVec 32) (k0_t1 : Fin k0_t1_loop.trips) (arg8 : BitVec 32)
    (X_arg3 : BufTy.Contents (Elt Ideal) arg3.view.ty) (X_arg4 : BufTy.Contents (Elt Ideal) arg4.view.ty) (k : Fin k0_t2_loop.trips)
    (a0 a1 : Nat) (h0 : arg0 = BitVec.ofNat 32 a0) (h1 : arg1 = BitVec.ofNat 32 a1) (h8 : arg8 = BitVec.ofNat 32 k0_t1.val) :
    InOk (inOf (F := Ideal) arg3 arg4 arg0 arg1 v1 v3 v5 v7 v9 v11 v13 v15 v17 v19 v21 v23 v25 v27 v29 v31 v33 v35 v37 v39 k0_pay1 k0_pay2 k0_t1 arg8 X_arg3 X_arg4 k)
      (codesN (arg3.view.read (Elt Ideal) X_arg3)) (scalesN (arg4.view.read (Elt Ideal) X_arg4)) k0_t1.val k.val a0 a1 where
  hk1 := lt1 k0_t1
  x00 ρ l := rdX _ _ _ _ _ _ (off1 k0_t1 k 0 0) ρ l
  x01 ρ l := rdX _ _ _ _ _ _ (off1 k0_t1 k 0 1) ρ l
  x02 ρ l := rdX _ _ _ _ _ _ (off1 k0_t1 k 0 2) ρ l
  x03 ρ l := rdX _ _ _ _ _ _ (off1 k0_t1 k 0 3) ρ l
  x10 ρ l := rdX _ _ _ _ _ _ (off1 k0_t1 k 1 0) ρ l
  x11 ρ l := rdX _ _ _ _ _ _ (off1 k0_t1 k 1 1) ρ l
  x12 ρ l := rdX _ _ _ _ _ _ (off1 k0_t1 k 1 2) ρ l
  x13 ρ l := rdX _ _ _ _ _ _ (off1 k0_t1 k 1 3) ρ l
  s0 ρ l := rdS _ _ _ _ _ (off2 k 0) ρ l
  s1 ρ l := rdS _ _ _ _ _ (off2 k 1) ρ l
  h51 r l := pay1_apply r l
  h58 r l := pay2_apply r l
  arg8 := h8
  base := by
    show Scalar.addi (Scalar.addi (Scalar.muli (Scalar.addi (Scalar.muli arg0 384#32) (Scalar.muli (Scf.iv 0#32 1#32 k) 64#32)) 9216#32)
     (Scalar.muli arg1 1024#32)) (Scalar.muli arg8 128#32) = _
    rw [h0, h1, h8, iv2]
    exact base_eq a0 a1 k.val k0_t1.val

/-! ## The pieces of one pass -/

/-- The exponents of a quad, by group, word, sublane and lane. -/
def spec7 (V : Nat → Nat → EReal) (k1 : Nat) : S12x4x8x128.Idx → BitVec 32 :=
  fun y => ebN V (y 0).val (512 * k1 + 128 * ((y 3).val % 4) + ((y 3).val / 4 * 4 + (y 1).val))

theorem piece5 (k1 k q a0 a1 : Nat) (off : Fin 3 → Nat) (inb : ∀ a, off a + S1x32x128.size a ≤ S1x192x4096.size a)
    (h : off = ![0, 32 * k, 512 * k1 + 128 * q]) (w : IVec S1x32x128 8) (V : Nat → Nat → EReal) (R : Nat → Nat → BitVec 32)
    (hw : ∀ u ρ l, w (ix3 u ρ l) = codeN V R (32 * k + ρ.val) (512 * k1 + 128 * q + l.val)) (S : S1x192x4096.Idx → BitVec 8)
    (hS : ∀ y, S y = codeN V R (y 1).val (y 2).val) (x : S1x32x128.Idx) :
    w x = S ((Rect.unit (s := S1x192x4096) off S1x32x128.size inb).emb x) := by
  subst h
  rw [hS]
  have e : x = ix3 (x 0) (x 1) (x 2) := by
    funext a
    match a with
    | ⟨0, _⟩ => rfl
    | ⟨1, _⟩ => rfl
    | ⟨2, _⟩ => rfl
  have e1 : (((Rect.unit (s := S1x192x4096) ![0, 32 * k, 512 * k1 + 128 * q] S1x32x128.size inb).emb x) 1).val = 32 * k + (x 1).val := by
    show 32 * k + 1 * (x 1).val = _; omega
  have e2 : (((Rect.unit (s := S1x192x4096) ![0, 32 * k, 512 * k1 + 128 * q] S1x32x128.size inb).emb x) 2).val = 512 * k1 + 128 * q + (x 2).val := by
    show 512 * k1 + 128 * q + 1 * (x 2).val = _; omega
  rw [e1, e2]
  exact (congrArg w e).trans (hw (x 0) (x 1) (x 2))

theorem piece7 (k1 g j : Nat) (off : Fin 4 → Nat) (inb : ∀ a, off a + S1x1x8x128.size a ≤ S12x4x8x128.size a)
    (h : off = ![g, j, 0, 0]) (w : W) (V : Nat → Nat → EReal)
    (hw : ∀ r l, w (ix2 r l) = ebN V g (colOf k1 j l)) (x : S1x1x8x128.Idx) :
    ebBlk w x = spec7 V k1 ((Rect.unit (s := S12x4x8x128) off S1x1x8x128.size inb).emb x) := by
  subst h
  have e : x = ix4 (x 0) (x 1) (x 2) (x 3) := by
    funext a
    match a with
    | ⟨0, _⟩ => rfl
    | ⟨1, _⟩ => rfl
    | ⟨2, _⟩ => rfl
    | ⟨3, _⟩ => rfl
  have e0 : (((Rect.unit (s := S12x4x8x128) ![g, j, 0, 0] S1x1x8x128.size inb).emb x) 0).val = g := by
    have hx : (x 0).val < 1 := (x 0).isLt
    show g + 1 * (x 0).val = _; omega
  have e1 : (((Rect.unit (s := S12x4x8x128) ![g, j, 0, 0] S1x1x8x128.size inb).emb x) 1).val = j := by
    have hx : (x 1).val < 1 := (x 1).isLt
    show j + 1 * (x 1).val = _; omega
  have e3 : (((Rect.unit (s := S12x4x8x128) ![g, j, 0, 0] S1x1x8x128.size inb).emb x) 3).val = (x 3).val := by
    show 0 + 1 * (x 3).val = _; omega
  unfold spec7
  rw [e0, e1, e3]
  exact (congrArg (ebBlk w) e).trans ((ebBlk_apply w (x 0) (x 1) (x 2) (x 3)).trans (hw (x 2) (x 3)))

theorem pieces5_spec (k0_t1 : Fin k0_t1_loop.trips) (k : Fin k0_t2_loop.trips) (I : In) (A B : Nat → Nat → BitVec 8) (a0 a1 : Nat)
    (H : InOk I A B k0_t1.val k.val a0 a1) (S : S1x192x4096.Idx → BitVec 8) (hS : ∀ y, S y = codeN (vN A B) (rN I.K a0 a1) (y 1).val (y 2).val) :
    ∀ p ∈ pieces5 k0_t1 k Ideal I, ∀ x, p.2 x = S (p.1.emb x) := by
  intro p hp
  simp only [pieces5, List.mem_cons, List.not_mem_nil, or_false] at hp
  rcases hp with rfl | rfl | rfl | rfl
  · exact piece5 k0_t1.val k.val 3 a0 a1 _ (k0_off7_inb k0_t1 k 3) (off7 k0_t1 k 3) _ _ _ (fun u ρ l => out3_apply H u ρ l) S hS
  · exact piece5 k0_t1.val k.val 2 a0 a1 _ (k0_off7_inb k0_t1 k 2) (off7 k0_t1 k 2) _ _ _ (fun u ρ l => out2_apply H u ρ l) S hS
  · exact piece5 k0_t1.val k.val 1 a0 a1 _ (k0_off7_inb k0_t1 k 1) (off7 k0_t1 k 1) _ _ _ (fun u ρ l => out1_apply H u ρ l) S hS
  · exact piece5 k0_t1.val k.val 0 a0 a1 _ (k0_off7_inb k0_t1 k 0) (off7 k0_t1 k 0) _ _ _ (fun u ρ l => out0_apply H u ρ l) S hS

theorem pieces7_spec (k0_t1 : Fin k0_t1_loop.trips) (k : Fin k0_t2_loop.trips) (I : In) (A B : Nat → Nat → BitVec 8) (a0 a1 : Nat)
    (H : InOk I A B k0_t1.val k.val a0 a1) : ∀ p ∈ pieces7 k Ideal I, ∀ x, p.2 x = spec7 (vN A B) k0_t1.val (p.1.emb x) := by
  intro p hp
  simp only [pieces7, List.mem_cons, List.not_mem_nil, or_false] at hp
  rcases hp with rfl | rfl | rfl | rfl | rfl | rfl | rfl | rfl
  · exact piece7 k0_t1.val (2 * k.val + 1) 3 _ (k0_off6_inb k 1) (off6 k 1) _ _ (fun r l => e13_apply H r l)
  · exact piece7 k0_t1.val (2 * k.val + 1) 2 _ (k0_off5_inb k 1) (off5 k 1) _ _ (fun r l => e12_apply H r l)
  · exact piece7 k0_t1.val (2 * k.val + 1) 1 _ (k0_off4_inb k 1) (off4 k 1) _ _ (fun r l => e11_apply H r l)
  · exact piece7 k0_t1.val (2 * k.val + 1) 0 _ (k0_off3_inb k 1) (off3 k 1) _ _ (fun r l => e10_apply H r l)
  · exact piece7 k0_t1.val (2 * k.val + 0) 3 _ (k0_off6_inb k 0) (off6 k 0) _ _ (fun r l => e03_apply H r l)
  · exact piece7 k0_t1.val (2 * k.val + 0) 2 _ (k0_off5_inb k 0) (off5 k 0) _ _ (fun r l => e02_apply H r l)
  · exact piece7 k0_t1.val (2 * k.val + 0) 1 _ (k0_off4_inb k 0) (off4 k 0) _ _ (fun r l => e01_apply H r l)
  · exact piece7 k0_t1.val (2 * k.val + 0) 0 _ (k0_off3_inb k 0) (off3 k 0) _ _ (fun r l => e00_apply H r l)

theorem mem5 (off : Fin 3 → Nat) (inb : ∀ a, off a + S1x32x128.size a ≤ S1x192x4096.size a) (s c : Nat) (h : off = ![0, s, c]) (y : S1x192x4096.Idx)
    (h1 : s ≤ (y 1).val ∧ (y 1).val < s + 32) (h2 : c ≤ (y 2).val ∧ (y 2).val < c + 128) : y ∈ (Rect.unit (s := S1x192x4096) off S1x32x128.size inb).set := by
  subst h
  rw [Rect.mem_set_unit]
  intro a
  match a with
  | ⟨0, _⟩ => exact ⟨Nat.zero_le _, show (y 0).val < 0 + 1 by have : (y 0).val < 1 := (y 0).isLt; omega⟩
  | ⟨1, _⟩ => exact h1
  | ⟨2, _⟩ => exact h2

theorem mem7 (off : Fin 4 → Nat) (inb : ∀ a, off a + S1x1x8x128.size a ≤ S12x4x8x128.size a) (g j : Nat) (h : off = ![g, j, 0, 0]) (y : S12x4x8x128.Idx)
    (h0 : (y 0).val = g) (h1 : (y 1).val = j) : y ∈ (Rect.unit (s := S12x4x8x128) off S1x1x8x128.size inb).set := by
  subst h
  rw [Rect.mem_set_unit]
  intro a
  match a with
  | ⟨0, _⟩ => exact ⟨le_of_eq h0.symm, show (y 0).val < g + 1 by omega⟩
  | ⟨1, _⟩ => exact ⟨le_of_eq h1.symm, show (y 1).val < j + 1 by omega⟩
  | ⟨2, _⟩ => exact ⟨Nat.zero_le _, show (y 2).val < 0 + 8 by have : (y 2).val < 8 := (y 2).isLt; omega⟩
  | ⟨3, _⟩ => exact ⟨Nat.zero_le _, show (y 3).val < 0 + 128 by have : (y 3).val < 128 := (y 3).isLt; omega⟩

theorem pieces5_cover (k0_t1 : Fin k0_t1_loop.trips) (k : Fin k0_t2_loop.trips) (I : In) (y : S1x192x4096.Idx)
    (hr : 32 * k.val ≤ (y 1).val ∧ (y 1).val < 32 * k.val + 32) (hc : 512 * k0_t1.val ≤ (y 2).val ∧ (y 2).val < 512 * k0_t1.val + 512) :
    ∃ p ∈ pieces5 k0_t1 k Ideal I, y ∈ p.1.set := by
  have hq : (y 2).val < 512 * k0_t1.val + 128 ∨ (512 * k0_t1.val + 128 ≤ (y 2).val ∧ (y 2).val < 512 * k0_t1.val + 256)
    ∨ (512 * k0_t1.val + 256 ≤ (y 2).val ∧ (y 2).val < 512 * k0_t1.val + 384) ∨ 512 * k0_t1.val + 384 ≤ (y 2).val := by omega
  unfold pieces5
  rcases hq with h | h | h | h
  · exact ⟨_, List.mem_cons_of_mem _ (List.mem_cons_of_mem _ (List.mem_cons_of_mem _ (List.mem_cons_self ..))), mem5 _ (k0_off7_inb k0_t1 k 0) _ _ (off7 k0_t1 k 0) y hr (by show _ + 128 * 0 ≤ _ ∧ _ < _ + 128 * 0 + 128; omega)⟩
  · exact ⟨_, List.mem_cons_of_mem _ (List.mem_cons_of_mem _ (List.mem_cons_self ..)), mem5 _ (k0_off7_inb k0_t1 k 1) _ _ (off7 k0_t1 k 1) y hr (by show _ + 128 * 1 ≤ _ ∧ _ < _ + 128 * 1 + 128; omega)⟩
  · exact ⟨_, List.mem_cons_of_mem _ (List.mem_cons_self ..), mem5 _ (k0_off7_inb k0_t1 k 2) _ _ (off7 k0_t1 k 2) y hr (by show _ + 128 * 2 ≤ _ ∧ _ < _ + 128 * 2 + 128; omega)⟩
  · exact ⟨_, List.mem_cons_self .., mem5 _ (k0_off7_inb k0_t1 k 3) _ _ (off7 k0_t1 k 3) y hr (by show _ + 128 * 3 ≤ _ ∧ _ < _ + 128 * 3 + 128; omega)⟩

theorem pieces7_cover (k : Fin k0_t2_loop.trips) (I : In) (y : S12x4x8x128.Idx) (hg : (y 0).val = 2 * k.val ∨ (y 0).val = 2 * k.val + 1) :
    ∃ p ∈ pieces7 k Ideal I, y ∈ p.1.set := by
  have hj : (y 1).val < 4 := (y 1).isLt
  have hq : (y 1).val = 0 ∨ (y 1).val = 1 ∨ (y 1).val = 2 ∨ (y 1).val = 3 := by omega
  rcases hg with hg | hg <;> rcases hq with h | h | h | h
  · exact ⟨_, List.getElem_mem (n := 7) (by simp [pieces7]), mem7 _ (k0_off3_inb k 0) _ _ (off3 k 0) y hg h⟩
  · exact ⟨_, List.getElem_mem (n := 6) (by simp [pieces7]), mem7 _ (k0_off4_inb k 0) _ _ (off4 k 0) y hg h⟩
  · exact ⟨_, List.getElem_mem (n := 5) (by simp [pieces7]), mem7 _ (k0_off5_inb k 0) _ _ (off5 k 0) y hg h⟩
  · exact ⟨_, List.getElem_mem (n := 4) (by simp [pieces7]), mem7 _ (k0_off6_inb k 0) _ _ (off6 k 0) y hg h⟩
  · exact ⟨_, List.getElem_mem (n := 3) (by simp [pieces7]), mem7 _ (k0_off3_inb k 1) _ _ (off3 k 1) y hg h⟩
  · exact ⟨_, List.getElem_mem (n := 2) (by simp [pieces7]), mem7 _ (k0_off4_inb k 1) _ _ (off4 k 1) y hg h⟩
  · exact ⟨_, List.getElem_mem (n := 1) (by simp [pieces7]), mem7 _ (k0_off5_inb k 1) _ _ (off5 k 1) y hg h⟩
  · exact ⟨_, List.getElem_mem (n := 0) (by simp [pieces7]), mem7 _ (k0_off6_inb k 1) _ _ (off6 k 1) y hg h⟩

/-! ## The pieces of the inner loop's trips -/

theorem pb_sub (𝒱 : Variants) (c : Dev nD) (bd : Option 𝒱.V) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole) (arg0 : BitVec 32) (arg1 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v40 : IVec S8x128 32) (v51 : IVec S8x128 32) (v58 : IVec S8x128 32) (c0_i32_20 : BitVec 32) (c1_i32 : BitVec 32) (k0_t1 : Fin k0_t1_loop.trips) (arg8 : BitVec 32) (v61 : BitVec 32) (X_arg3 : BufTy.Contents (Elt Ideal) arg3.view.ty) (X_arg4 : BufTy.Contents (Elt Ideal) arg4.view.ty) : ∀ n ≤ k0_t2_loop.trips,
    (∀ p ∈ (pb_k0_t2 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 n).1, ∃ k : Fin k0_t2_loop.trips, p ∈ pieces5 k0_t1 k Ideal (inOf (F := Ideal) arg3 arg4 arg0 arg1 v1 v3 v5 v7 v9 v11 v13 v15 v17 v19 v21 v23 v25 v27 v29 v31 v33 v35 v37 v39 v51 v58 k0_t1 arg8 X_arg3 X_arg4 k))
    ∧ (∀ p ∈ (pb_k0_t2 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 n).2, ∃ k : Fin k0_t2_loop.trips, p ∈ pieces7 k Ideal (inOf (F := Ideal) arg3 arg4 arg0 arg1 v1 v3 v5 v7 v9 v11 v13 v15 v17 v19 v21 v23 v25 v27 v29 v31 v33 v35 v37 v39 v51 v58 k0_t1 arg8 X_arg3 X_arg4 k))
    ∧ (∀ k : Fin k0_t2_loop.trips, k.val < n → (∀ p ∈ pieces5 k0_t1 k Ideal (inOf (F := Ideal) arg3 arg4 arg0 arg1 v1 v3 v5 v7 v9 v11 v13 v15 v17 v19 v21 v23 v25 v27 v29 v31 v33 v35 v37 v39 v51 v58 k0_t1 arg8 X_arg3 X_arg4 k), p ∈ (pb_k0_t2 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 n).1)
      ∧ ∀ p ∈ pieces7 k Ideal (inOf (F := Ideal) arg3 arg4 arg0 arg1 v1 v3 v5 v7 v9 v11 v13 v15 v17 v19 v21 v23 v25 v27 v29 v31 v33 v35 v37 v39 v51 v58 k0_t1 arg8 X_arg3 X_arg4 k), p ∈ (pb_k0_t2 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 n).2)
  | 0, _ => by
    refine ⟨fun p hp => ?_, fun p hp => ?_, fun k hk => absurd hk (Nat.not_lt_zero _)⟩
    · exact absurd hp List.not_mem_nil
    · exact absurd hp List.not_mem_nil
  | n + 1, hn => by
    obtain ⟨h5, h7, hc⟩ := pb_sub 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 n (by omega)
    have e := pb_k0_t2_succ (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 ⟨n, by omega⟩
    have e5 : (pb_k0_t2 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 (n + 1)).1 = pieces5 k0_t1 ⟨n, by omega⟩ Ideal (inOf (F := Ideal) arg3 arg4 arg0 arg1 v1 v3 v5 v7 v9 v11 v13 v15 v17 v19 v21 v23 v25 v27 v29 v31 v33 v35 v37 v39 v51 v58 k0_t1 arg8 X_arg3 X_arg4 ⟨n, by omega⟩) ++ (pb_k0_t2 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 n).1 :=
      (congrArg Prod.fst e).trans (congrArg (· ++ _) (trip5 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 ⟨n, by omega⟩))
    have e7 : (pb_k0_t2 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 (n + 1)).2 = pieces7 ⟨n, by omega⟩ Ideal (inOf (F := Ideal) arg3 arg4 arg0 arg1 v1 v3 v5 v7 v9 v11 v13 v15 v17 v19 v21 v23 v25 v27 v29 v31 v33 v35 v37 v39 v51 v58 k0_t1 arg8 X_arg3 X_arg4 ⟨n, by omega⟩) ++ (pb_k0_t2 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 n).2 :=
      (congrArg Prod.snd e).trans (congrArg (· ++ _) (trip7 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 v51 v58 c0_i32_20 c1_i32 k0_t1 arg8 v61 X_arg3 X_arg4 ⟨n, by omega⟩))
    rw [e5, e7]
    refine ⟨fun p hp => ?_, fun p hp => ?_, fun k hk => ?_⟩
    · rcases List.mem_append.mp hp with hp | hp
      · exact ⟨_, hp⟩
      · exact h5 p hp
    · rcases List.mem_append.mp hp with hp | hp
      · exact ⟨_, hp⟩
      · exact h7 p hp
    · by_cases hkn : k.val < n
      · exact ⟨fun p hp => List.mem_append.mpr (.inr ((hc k hkn).1 p hp)), fun p hp => List.mem_append.mpr (.inr ((hc k hkn).2 p hp))⟩
      · have hk' : k = ⟨n, by omega⟩ := Fin.ext (by show k.val = n; omega)
        rw [hk']
        exact ⟨fun p hp => List.mem_append.mpr (.inl hp), fun p hp => List.mem_append.mpr (.inl hp)⟩

/-- What the trips of the inner loop leave in the scratch. -/
theorem read7 (𝒱 : Variants) (c : Dev nD) (bd : Option 𝒱.V) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole) (arg0 : BitVec 32) (arg1 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v40 : IVec S8x128 32) (c0_i32_20 : BitVec 32) (c1_i32 : BitVec 32) (k0_t1 : Fin k0_t1_loop.trips) (arg8 : BitVec 32) (v61 : BitVec 32) (X_arg3 : BufTy.Contents (Elt Ideal) arg3.view.ty) (X_arg4 : BufTy.Contents (Elt Ideal) arg4.view.ty) (h0 : arg0 = BitVec.ofNat 32 (i 0).val) (h1 : arg1 = BitVec.ofNat 32 (i 1).val) (h8 : arg8 = BitVec.ofNat 32 k0_t1.val)
    (f7 : arg7.view.ty.Contents (Elt Ideal)) (y : S12x4x8x128.Idx) :
    arg7.view.read (Elt Ideal) (arg7.view.writes (Elt Ideal) f7 (pb_k0_t2 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 k0_pay1 k0_pay2 c0_i32_20 c1_i32 k0_t1 arg8 v61 X_arg3 X_arg4 k0_t2_loop.trips).2) y
      = spec7 (valN (arg3.view.read (Elt Ideal) X_arg3) (arg4.view.read (Elt Ideal) X_arg4)) k0_t1.val y := by
  obtain ⟨-, h7, hc⟩ := pb_sub 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 k0_pay1 k0_pay2 c0_i32_20 c1_i32 k0_t1 arg8 v61 X_arg3 X_arg4 k0_t2_loop.trips (le_refl _)
  refine writes_spec (Val := Elt Ideal) (e := .i32) _ (spec7 (valN (arg3.view.read (Elt Ideal) X_arg3) (arg4.view.read (Elt Ideal) X_arg4)) k0_t1.val) _ y _ (fun p hp => ?_) (.inl ?_)
  · obtain ⟨k, hk⟩ := h7 p hp
    exact pieces7_spec k0_t1 k _ _ _ (i 0).val (i 1).val (inOf_ok arg3 arg4 arg0 arg1 v1 v3 v5 v7 v9 v11 v13 v15 v17 v19 v21 v23 v25 v27 v29 v31 v33 v35 v37 v39 k0_t1 arg8 X_arg3 X_arg4 k (i 0).val (i 1).val h0 h1 h8) p hk
  · have hy : (y 0).val < 12 := (y 0).isLt
    have hk : (y 0).val / 2 < k0_t2_loop.trips := by rw [trips2]; omega
    obtain ⟨p, hp, hyp⟩ := pieces7_cover ⟨(y 0).val / 2, hk⟩ (inOf (F := Ideal) arg3 arg4 arg0 arg1 v1 v3 v5 v7 v9 v11 v13 v15 v17 v19 v21 v23 v25 v27 v29 v31 v33 v35 v37 v39 k0_pay1 k0_pay2 k0_t1 arg8 X_arg3 X_arg4 ⟨(y 0).val / 2, hk⟩) y (by dsimp only; omega)
    exact ⟨p, (hc ⟨(y 0).val / 2, hk⟩ hk).2 p hp, hyp⟩

/-- A trip of the outer loop on the block of bytes. -/
theorem step5 (𝒱 : Variants) (c : Dev nD) (bd : Option 𝒱.V) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole) (arg0 : BitVec 32) (arg1 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v40 : IVec S8x128 32) (c0_i32_20 : BitVec 32) (c1_i32 : BitVec 32) (k0_t1 : Fin k0_t1_loop.trips) (arg8 : BitVec 32) (v61 : BitVec 32) (X_arg3 : BufTy.Contents (Elt Ideal) arg3.view.ty) (X_arg4 : BufTy.Contents (Elt Ideal) arg4.view.ty) (h0 : arg0 = BitVec.ofNat 32 (i 0).val) (h1 : arg1 = BitVec.ofNat 32 (i 1).val) (h8 : arg8 = BitVec.ofNat 32 k0_t1.val)
    (f5 : arg5.view.ty.Contents (Elt Ideal))
    (hf : ∀ y : S1x192x4096.Idx, (y 2).val < 512 * k0_t1.val → arg5.view.read (Elt Ideal) f5 y
      = spec5 i ⟨v1, v3, v5, v7, v9, v11, v13, v15, v17, v19, v21, v23, v25, v27, v29, v31, v33, v35, v37, v39⟩ (arg3.view.read (Elt Ideal) X_arg3) (arg4.view.read (Elt Ideal) X_arg4) y)
    (y : S1x192x4096.Idx) (hy : (y 2).val < 512 * (k0_t1.val + 1)) :
    arg5.view.read (Elt Ideal) (arg5.view.writes (Elt Ideal) f5 (pb_k0_t2 (F := Ideal) 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 k0_pay1 k0_pay2 c0_i32_20 c1_i32 k0_t1 arg8 v61 X_arg3 X_arg4 k0_t2_loop.trips).1) y
      = spec5 i ⟨v1, v3, v5, v7, v9, v11, v13, v15, v17, v19, v21, v23, v25, v27, v29, v31, v33, v35, v37, v39⟩ (arg3.view.read (Elt Ideal) X_arg3) (arg4.view.read (Elt Ideal) X_arg4) y := by
  obtain ⟨h5, -, hc⟩ := pb_sub 𝒱 c bd i arg2 harg2 arg3 harg3 arg4 harg4 arg5 harg5 arg6 harg6 arg7 harg7 arg0 arg1 v1 v3 v5 v7 v9 v11 v13 v15 v17 v19 v21 v23 v25 v27 v29 v31 v33 v35 v37 v39 v40 k0_pay1 k0_pay2 c0_i32_20 c1_i32 k0_t1 arg8 v61 X_arg3 X_arg4 k0_t2_loop.trips (le_refl _)
  refine writes_spec (Val := Elt Ideal) (e := .i8) _ (spec5 i ⟨v1, v3, v5, v7, v9, v11, v13, v15, v17, v19, v21, v23, v25, v27, v29, v31, v33, v35, v37, v39⟩ (arg3.view.read (Elt Ideal) X_arg3) (arg4.view.read (Elt Ideal) X_arg4)) _ y _ (fun p hp => ?_) ?_
  · obtain ⟨k, hk⟩ := h5 p hp
    exact pieces5_spec k0_t1 k _ _ _ (i 0).val (i 1).val (inOf_ok arg3 arg4 arg0 arg1 v1 v3 v5 v7 v9 v11 v13 v15 v17 v19 v21 v23 v25 v27 v29 v31 v33 v35 v37 v39 k0_t1 arg8 X_arg3 X_arg4 k (i 0).val (i 1).val h0 h1 h8) _ (fun y => rfl) p hk
  · by_cases hl : (y 2).val < 512 * k0_t1.val
    · exact .inr (hf y hl)
    · left
      have hy1 : (y 1).val < 192 := (y 1).isLt
      have hk : (y 1).val / 32 < k0_t2_loop.trips := by rw [trips2]; omega
      obtain ⟨p, hp, hyp⟩ := pieces5_cover k0_t1 ⟨(y 1).val / 32, hk⟩ (inOf (F := Ideal) arg3 arg4 arg0 arg1 v1 v3 v5 v7 v9 v11 v13 v15 v17 v19 v21 v23 v25 v27 v29 v31 v33 v35 v37 v39 k0_pay1 k0_pay2 k0_t1 arg8 X_arg3 X_arg4 ⟨(y 1).val / 32, hk⟩) y (by dsimp only; omega) (by omega)
      exact ⟨p, (hc ⟨(y 1).val / 32, hk⟩ hk).1 p hp, hyp⟩

/-! ## The scale bytes of a trip -/

theorem inb7 (g j : Nat) (hg : g < 12) (hj : j < 4) : ∀ a, (![g, j, 0, 0] : Fin 4 → Nat) a + S1x1x8x128.size a ≤ S12x4x8x128.size a := by
  intro a
  match a with
  | ⟨0, _⟩ => exact hg
  | ⟨1, _⟩ => exact hj
  | ⟨2, _⟩ => exact le_refl 8
  | ⟨3, _⟩ => exact le_refl 128

/-- The registers read back from the scratch. -/
def rd7 (v : View sig .tc .vmem S12x4x8x128 .i32) (f : v.ty.Contents (Elt Ideal)) (g j : Nat) : IVec S1x1x8x128 32 :=
  if h : g < 12 ∧ j < 4 then View.readAt (Elt Ideal) v (Rect.unit (s := S12x4x8x128) ![g, j, 0, 0] S1x1x8x128.size (inb7 g j h.1 h.2)).toLoadRect f else fun _ => 0#32

theorem rd7_apply (v : View sig .tc .vmem S12x4x8x128 .i32) (f : v.ty.Contents (Elt Ideal)) (V : Nat → Nat → EReal) (k1 : Nat)
    (h : ∀ y, v.read (Elt Ideal) f y = spec7 V k1 y) (g : Nat) (hg : g < 12) (j : Nat) (hj : j < 4) (r : Fin 8) (l : Fin 128) :
    rd7 v f g j (ix4 0 0 r l) = ebN V g (512 * k1 + 128 * (l.val % 4) + (l.val / 4 * 4 + j)) := by
  unfold rd7
  rw [dif_pos ⟨hg, hj⟩]
  show v.read (Elt Ideal) f _ = _
  rw [h]
  unfold spec7
  have e3 : (((Rect.unit (s := S12x4x8x128) ![g, j, 0, 0] S1x1x8x128.size (inb7 g j hg hj)).emb (ix4 0 0 r l)) 3).val = l.val := by
    show 0 + 1 * l.val = _; omega
  show ebN V (g + 1 * 0) (512 * k1 + 128 * ((0 + 1 * l.val) % 4) + ((0 + 1 * l.val) / 4 * 4 + (j + 1 * 0))) = _
  congr 1 <;> omega

/-- The four stores of a trip. -/
def pieces6 (k0_t1 : Fin k0_t1_loop.trips) (v40 : W) (L : Nat → Nat → IVec S1x1x8x128 32) : List (View.Piece (Elt Ideal) S1x12x4096 .i8) :=
  [⟨Rect.unit (s := S1x12x4096) (k0_off8 k0_t1 384#32) S1x12x128.size (k0_off8_inb k0_t1 3), sb3 v40 L⟩,
   ⟨Rect.unit (s := S1x12x4096) (k0_off8 k0_t1 256#32) S1x12x128.size (k0_off8_inb k0_t1 2), sb2 v40 L⟩,
   ⟨Rect.unit (s := S1x12x4096) (k0_off8 k0_t1 128#32) S1x12x128.size (k0_off8_inb k0_t1 1), sb1 v40 L⟩,
   ⟨Rect.unit (s := S1x12x4096) (k0_off8 k0_t1 0#32) S1x12x128.size (k0_off8_inb k0_t1 0), sb0 v40 L⟩]

theorem piece6 (k1 q : Nat) (off : Fin 3 → Nat) (inb : ∀ a, off a + S1x12x128.size a ≤ S1x12x4096.size a)
    (h : off = ![0, 0, 512 * k1 + 128 * q]) (w : IVec S1x12x128 8) (V : Nat → Nat → EReal)
    (hw : ∀ u g l, w (ix3 u g l) = (scaleByte (ebN V g.val (512 * k1 + 128 * q + l.val))).setWidth 8) (S : S1x12x4096.Idx → BitVec 8)
    (hS : ∀ y, S y = (scaleByte (ebN V (y 1).val (y 2).val)).setWidth 8) (x : S1x12x128.Idx) :
    w x = S ((Rect.unit (s := S1x12x4096) off S1x12x128.size inb).emb x) := by
  subst h
  rw [hS]
  have e : x = ix3 (x 0) (x 1) (x 2) := by
    funext a
    match a with
    | ⟨0, _⟩ => rfl
    | ⟨1, _⟩ => rfl
    | ⟨2, _⟩ => rfl
  have e1 : (((Rect.unit (s := S1x12x4096) ![0, 0, 512 * k1 + 128 * q] S1x12x128.size inb).emb x) 1).val = (x 1).val := by
    show 0 + 1 * (x 1).val = _; omega
  have e2 : (((Rect.unit (s := S1x12x4096) ![0, 0, 512 * k1 + 128 * q] S1x12x128.size inb).emb x) 2).val = 512 * k1 + 128 * q + (x 2).val := by
    show 512 * k1 + 128 * q + 1 * (x 2).val = _; omega
  rw [e1, e2]
  exact (congrArg w e).trans (hw (x 0) (x 1) (x 2))

theorem mem6 (off : Fin 3 → Nat) (inb : ∀ a, off a + S1x12x128.size a ≤ S1x12x4096.size a) (c : Nat) (h : off = ![0, 0, c]) (y : S1x12x4096.Idx)
    (h2 : c ≤ (y 2).val ∧ (y 2).val < c + 128) : y ∈ (Rect.unit (s := S1x12x4096) off S1x12x128.size inb).set := by
  subst h
  rw [Rect.mem_set_unit]
  intro a
  match a with
  | ⟨0, _⟩ => exact ⟨Nat.zero_le _, show (y 0).val < 0 + 1 by have : (y 0).val < 1 := (y 0).isLt; omega⟩
  | ⟨1, _⟩ => exact ⟨Nat.zero_le _, show (y 1).val < 0 + 12 by have : (y 1).val < 12 := (y 1).isLt; omega⟩
  | ⟨2, _⟩ => exact h2

/-- A trip of the outer loop on the block of scale bytes. -/
theorem step6 (v6 : View sig .tc .vmem S1x12x4096 .i8) (f6 : v6.ty.Contents (Elt Ideal)) (k0_t1 : Fin k0_t1_loop.trips) (L : Nat → Nat → IVec S1x1x8x128 32)
    (x3 : S1x384x4096.Idx → BitVec 8) (x4 : S1x384x128.Idx → BitVec 8)
    (hL : ∀ g < 12, ∀ j < 4, ∀ (r : Fin 8) (l : Fin 128), L g j (ix4 0 0 r l) = ebN (valN x3 x4) g (512 * k0_t1.val + 128 * (l.val % 4) + (l.val / 4 * 4 + j)))
    (hf : ∀ y : S1x12x4096.Idx, (y 2).val < 512 * k0_t1.val → v6.read (Elt Ideal) f6 y = spec6 x3 x4 y)
    (y : S1x12x4096.Idx) (hy : (y 2).val < 512 * (k0_t1.val + 1)) :
    v6.read (Elt Ideal) (v6.writes (Elt Ideal) f6 (pieces6 k0_t1 rowIota L)) y = spec6 x3 x4 y := by
  refine writes_spec (Val := Elt Ideal) (e := .i8) _ (spec6 x3 x4) _ y _ (fun p hp => ?_) ?_
  · simp only [pieces6, List.mem_cons, List.not_mem_nil, or_false] at hp
    rcases hp with rfl | rfl | rfl | rfl
    · exact piece6 k0_t1.val 3 _ (k0_off8_inb k0_t1 3) (off8 k0_t1 3) (sb3 rowIota L) (valN x3 x4) (fun u g l => sb_apply qt3 3 (by omega) (fun x0 x1 x2 x3 r l => qt3_apply x0 x1 x2 x3 r l) L (valN x3 x4) k0_t1.val hL u g l) (spec6 x3 x4) (fun y => rfl)
    · exact piece6 k0_t1.val 2 _ (k0_off8_inb k0_t1 2) (off8 k0_t1 2) (sb2 rowIota L) (valN x3 x4) (fun u g l => sb_apply qt2 2 (by omega) (fun x0 x1 x2 x3 r l => qt2_apply x0 x1 x2 x3 r l) L (valN x3 x4) k0_t1.val hL u g l) (spec6 x3 x4) (fun y => rfl)
    · exact piece6 k0_t1.val 1 _ (k0_off8_inb k0_t1 1) (off8 k0_t1 1) (sb1 rowIota L) (valN x3 x4) (fun u g l => sb_apply qt1 1 (by omega) (fun x0 x1 x2 x3 r l => qt1_apply x0 x1 x2 x3 r l) L (valN x3 x4) k0_t1.val hL u g l) (spec6 x3 x4) (fun y => rfl)
    · exact piece6 k0_t1.val 0 _ (k0_off8_inb k0_t1 0) (off8 k0_t1 0) (sb0 rowIota L) (valN x3 x4) (fun u g l => sb_apply qt0 0 (by omega) (fun x0 x1 x2 x3 r l => qt0_apply x0 x1 x2 x3 r l) L (valN x3 x4) k0_t1.val hL u g l) (spec6 x3 x4) (fun y => rfl)
  · by_cases hl : (y 2).val < 512 * k0_t1.val
    · exact .inr (hf y hl)
    · left
      have hq : (y 2).val < 512 * k0_t1.val + 128 ∨ (512 * k0_t1.val + 128 ≤ (y 2).val ∧ (y 2).val < 512 * k0_t1.val + 256)
        ∨ (512 * k0_t1.val + 256 ≤ (y 2).val ∧ (y 2).val < 512 * k0_t1.val + 384) ∨ 512 * k0_t1.val + 384 ≤ (y 2).val := by omega
      unfold pieces6
      rcases hq with h | h | h | h
      · exact ⟨_, List.mem_cons_of_mem _ (List.mem_cons_of_mem _ (List.mem_cons_of_mem _ (List.mem_cons_self ..))), mem6 _ (k0_off8_inb k0_t1 0) _ (off8 k0_t1 0) y (by show _ + 128 * 0 ≤ _ ∧ _ < _ + 128 * 0 + 128; omega)⟩
      · exact ⟨_, List.mem_cons_of_mem _ (List.mem_cons_of_mem _ (List.mem_cons_self ..)), mem6 _ (k0_off8_inb k0_t1 1) _ (off8 k0_t1 1) y (by show _ + 128 * 1 ≤ _ ∧ _ < _ + 128 * 1 + 128; omega)⟩
      · exact ⟨_, List.mem_cons_of_mem _ (List.mem_cons_self ..), mem6 _ (k0_off8_inb k0_t1 2) _ (off8 k0_t1 2) y (by show _ + 128 * 2 ≤ _ ∧ _ < _ + 128 * 2 + 128; omega)⟩
      · exact ⟨_, List.mem_cons_self .., mem6 _ (k0_off8_inb k0_t1 3) _ (off8 k0_t1 3) y (by show _ + 128 * 3 ≤ _ ∧ _ < _ + 128 * 3 + 128; omega)⟩

end Cert.KernelIdeal.Chunk

end
-- ==== Proof.Outer.lean ====
/- The body of the kernel's idealisation, with what it leaves in the two result blocks. -/
module

public import proofs.«01_k».proof.Proof.Cover

@[expose] public section

set_option maxRecDepth 16384

noncomputable section

namespace Cert.KernelIdeal.Val

open Cert.KernelIdeal Cert.KernelIdeal.Gen Cert.KernelIdeal.Chunk
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

set_option warn.classDefReducibility false in
set_option maxHeartbeats 4000000 in
/-- The outer loop: the operand blocks stay; before trip `k` the results hold their values on the columns of the trips before it. -/
@[sl_loop] def loopInv_k0_t1 (c : Dev nD) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole) (arg0 : BitVec 32) (arg1 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v40 : IVec S8x128 32)
    (X_arg3 : BufTy.Contents (Elt Ideal) arg3.view.ty) (X_arg4 : BufTy.Contents (Elt Ideal) arg4.view.ty) :
    LoopInvTy_k0_t1 (F := Ideal) Unit ℕ (UR sig nD τ) ℕ Variants.none c none Set.univ i arg2 harg2 arg3 harg3 arg4 harg4 arg5 harg5 arg6 harg6 arg7 harg7 arg0 arg1 v1 v3 v5 v7 v9 v11 v13 v15 v17 v19 v21 v23 v25 v27 v29 v31 v33 v35 v37 v39 v40 where
  inv k acc := iprop((arg3.view.loc (c : Thread nD τ) ↦[arg3.view.set]{fullShare} X_arg3) ∗ (arg4.view.loc (c : Thread nD τ) ↦[arg4.view.set]{fullShare} X_arg4)
    ∗ (∃ f, (arg5.view.loc (c : Thread nD τ) ↦[arg5.view.set]{fullShare} f) ∗ ⌜Good5 i ⟨v1, v3, v5, v7, v9, v11, v13, v15, v17, v19, v21, v23, v25, v27, v29, v31, v33, v35, v37, v39⟩ v40 arg0 arg1 (arg3.view.read (Elt Ideal) X_arg3) (arg4.view.read (Elt Ideal) X_arg4) (arg5.view.read (Elt Ideal) f) k = True⌝)
    ∗ (∃ f, (arg6.view.loc (c : Thread nD τ) ↦[arg6.view.set]{fullShare} f) ∗ ⌜Good6 i v40 arg0 arg1 (arg3.view.read (Elt Ideal) X_arg3) (arg4.view.read (Elt Ideal) X_arg4) (arg6.view.read (Elt Ideal) f) k = True⌝)
    ∗ (∃ f, (arg7.view.loc (c : Thread nD τ) ↦[arg7.view.set]{fullShare} f)))
  step k acc := by
    unfold k0_t1_body
    iintro ⟨H3, H4, ⟨%f5, H5, %h5⟩, ⟨%f6, H6, %h6⟩, ⟨%f7, H7⟩⟩
    sl_exec
    sl_step
    isplitl [H3]; · iexact H3
    isplitl [H4]; · iexact H4
    isplitl [H5]
    · iexists _; isplitl [H5]; · iexact H5
      ipureintro
      refine eq_true fun h40 h0 h1 => ?_
      exact step5 Variants.none c none i arg2 harg2 arg3 harg3 arg4 harg4 arg5 harg5 arg6 harg6 arg7 harg7 arg0 arg1 v1 v3 v5 v7 v9 v11 v13 v15 v17 v19 v21 v23 v25 v27 v29 v31 v33 v35 v37 v39 v40 0#32 1#32 k (loopInv_k0_t1.sl.arg8 k) (loopInv_k0_t1.sl.v60 k) X_arg3 X_arg4 h0 h1 (iv1 k) f5 (Good5.get h5 h40 h0 h1)
    isplitl [H6]
    · iexists _; isplitl [H6]; · iexact H6
      ipureintro
      refine eq_true fun h40 h0 h1 => ?_
      intro y hy
      refine (congrArg (fun L => View.read (Elt Ideal) arg6.view (View.writes arg6.view (Elt Ideal) f6 L) y) (?_ : _ = pieces6 k v40 (rd7 arg7.view
        (arg7.view.writes (Elt Ideal) f7 (pb_k0_t2 (F := Ideal) Variants.none c none i arg2 harg2 arg3 harg3 arg4 harg4 arg5 harg5 arg6 harg6 arg7 harg7 arg0 arg1 v1 v3 v5 v7 v9 v11 v13 v15 v17 v19 v21 v23 v25 v27 v29 v31 v33 v35 v37 v39 v40 k0_pay1 k0_pay2 0#32 1#32 k (loopInv_k0_t1.sl.arg8 k) (loopInv_k0_t1.sl.v60 k) X_arg3 X_arg4 k0_t2_loop.trips).2)))).trans ?_
      · sl_kernel_rfl
      · have h7 := read7 Variants.none c none i arg2 harg2 arg3 harg3 arg4 harg4 arg5 harg5 arg6 harg6 arg7 harg7 arg0 arg1 v1 v3 v5 v7 v9 v11 v13 v15 v17 v19 v21 v23 v25 v27 v29 v31 v33 v35 v37 v39 v40 0#32 1#32 k (loopInv_k0_t1.sl.arg8 k) (loopInv_k0_t1.sl.v60 k) X_arg3 X_arg4 h0 h1 (iv1 k) f7
        have h7' := rd7_apply _ _ _ _ h7
        have h6' := Good6.get h6 h40 h0 h1
        clear h7 h6 h5
        subst h40
        exact step6 _ _ _ _ _ _ h7' h6' y hy
    iexists _; iexact H7

/-- The round keys: the two seed words, each plus the multiples of its increment. -/
def keysW (w u : BitVec 32) : Keys := ⟨w + 0#32, w + 2654435769#32, w + 1013904242#32, w + 3668340011#32, w + 2027808484#32, w + 387276957#32, w + 3041712726#32, w + 1401181199#32, w + 4055616968#32, w + 2415085441#32, u + 0#32, u + 3144134277#32, u + 1993301258#32, u + 842468239#32, u + 3986602516#32, u + 2835769497#32, u + 1684936478#32, u + 534103459#32, u + 3678237736#32, u + 2527404717#32⟩
/-- The round keys of a seed. -/
def keysOf (x2 : S2.Idx → BitVec 32) : Keys := keysW (x2 (ix1 0)) (x2 (ix1 1))

set_option maxHeartbeats 4000000 in
/-- The body on whole blocks: it runs to the end, the operands as they were, the results at their values and the scratch at some contents. -/
theorem body_run (c : Dev nD) (i : grid0.Coords) (arg2 : Memref sig .tc .smem S2 .i32) (harg2 : arg2.IsWhole) (arg3 : Memref sig .tc .vmem S1x384x4096 .i8) (harg3 : arg3.IsWhole) (arg4 : Memref sig .tc .vmem S1x384x128 .i8) (harg4 : arg4.IsWhole) (arg5 : Memref sig .tc .vmem S1x192x4096 .i8) (harg5 : arg5.IsWhole) (arg6 : Memref sig .tc .vmem S1x12x4096 .i8) (harg6 : arg6.IsWhole) (arg7 : Memref sig .tc .vmem S12x4x8x128 .i32) (harg7 : arg7.IsWhole)
    (x2 : Vec Ideal S2 .i32) (x3 : Vec Ideal S1x384x4096 .i8) (x4 : Vec Ideal S1x384x128 .i8) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x2 ∗ owns (c : Thread nD τ) arg3 fullShare x3 ∗ owns (c : Thread nD τ) arg4 fullShare x4 ∗ owns (c : Thread nD τ) arg5 fullShare (spec5 i (keysOf x2) x3 x4) ∗ owns (c : Thread nD τ) arg6 fullShare (spec6 x3 x4) ∗ (∃ d, owns (c : Thread nD τ) arg7 fullShare d)) -∗ K ⟨⟩))
      ⊢ wp frame (wpE (defs₀ (F := Ideal)) Variants.none c none) Set.univ (cc0__body i arg2 harg2 arg3 harg3 arg4 harg4 arg5 harg5 arg6 harg6 arg7 harg7) K := by
  simp only [cc0__body_eq_skeleton]; unfold cc0__body_skel
  simp only [k0_part130_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf2; obtain rfl := harg3.eq_unread hf3; obtain rfl := harg4.eq_unread hf4
  sl_exec
  sl_step
  iapply Hk
  rw [hf3, hf4] at hL3 hL5
  have e8 : Scf.trips k0_t1_loop.lb k0_t1_loop.ub k0_t1_loop.st = 8 := by decide +kernel
  rw [e8] at hL3 hL5
  have e5 := Good5.get hL3 rfl rfl rfl
  have e6 := Good6.get hL5 rfl rfl rfl
  sl_unfold_words
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    funext y
    refine (e5 y (y 2).isLt).trans ?_
    refine (congrArg (fun K => spec5 i K x3 x4 y) (?_ : _ = keysW (View.readAt (Elt Ideal) arg2.view (Rect.unit (s := S2) ![0] S1.size inb_S2_S1_0).toLoadRect (harg2.unread x2) (Shape.Idx.first (by decide))) (View.readAt (Elt Ideal) arg2.view (Rect.unit (s := S2) ![1] S1.size inb_S2_S1_1).toLoadRect (harg2.unread x2) (Shape.Idx.first (by decide))))).trans ?_
    · sl_kernel_rfl
    rw [View.readAt_eq_ld, View.readAt_eq_ld, hf2]
    refine congrArg (fun K => spec5 i K x3 x4 y) (congrArg₂ keysW (congrArg x2 ?_) (congrArg x2 ?_)) <;> decide +kernel
  isplitl [H6]
  · iexists _; isplitr
    swap; · iexact H6
    ipureintro
    funext y
    exact e6 y (y 2).isLt
  iexists _; iexists _; isplitr
  swap; · iexact H7
  ipureintro; rfl

end Cert.KernelIdeal.Val

end
-- ==== Proof.KernelRun.lean ====
/- The launch of the kernel's idealisation, with the two result blocks at their values. -/
module

public import proofs.«01_k».proof.Proof.Outer
public import proofs.«01_k».proof.Proof.Gen.KernelIdeal.Frame
public import Idealize.ShloMosaic.Lib.Claim

@[expose] public section

set_option maxRecDepth 16384

noncomputable section

namespace Cert.KernelIdeal.Val

open Cert.KernelIdeal Cert.KernelIdeal.Gen Cert.KernelIdeal.Chunk
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The proof data: the arrays as the region finds them, each operand's block left in place, the results at their values. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => spec5 (grid0.coords t) (keysOf (iblk m c 0 t)) (iblk m c 1 t) (iblk m c 2 t)
    | ⟨4, _⟩ => spec6 (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem after0_3 (c : Dev nD) (t : Fin cfg0.N) : (dats m 0 c).after 3 t = spec5 (grid0.coords t) (keysOf (iblk m c 0 t)) (iblk m c 1 t) (iblk m c 2 t) := by dsimp only [dats]
theorem after0_4 (c : Dev nD) (t : Fin cfg0.N) : (dats m 0 c).after 4 t = spec6 (iblk m c 1 t) (iblk m c 2 t) := by dsimp only [dats]

/-- The scratch, taken out of the region's invariant at some contents. -/
theorem Phi_eq (c : Dev nD) (t) : (dats m 0 c).Φ t
    = iprop(((∃ d, owns (c : Thread nD τ) (Memref.whole cc0_scratch0) fullShare d)) ∗ (∃ r, prngReg c r)) := by
  show Pipeline.ΦA spec0 c = _
  rw [Pipeline.ΦA, scopedRest0_eq]
  simp only [owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the operands hold their blocks, so the run applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_4, Phi_eq, Phi_eq]
  iintro ⟨⟨Hs, Hp⟩, Ho, ⟨%d0, H0⟩, ⟨%d1, H1⟩, ⟨%d2, H2⟩, ⟨%d3, H3⟩, ⟨%d4, H4⟩⟩
  iapply (body_run c _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [Hs]; · iexact Hs
  iintro ⟨H0, H1, H2, H3, H4, Hs⟩
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Val

end
-- ==== Proof.KernelVal.lean ====
/- The two result arrays of the kernel's idealisation after the launch, element by element, as functions of its arguments. -/
module

public import proofs.«01_k».proof.Proof.KernelRun
public import Idealize.ShloMosaic.Lib.Pipeline.ValueKit

@[expose] public section

set_option maxRecDepth 16384

noncomputable section

namespace Cert.KernelIdeal.Val

open Cert.KernelIdeal Cert.KernelIdeal.Gen Cert.KernelIdeal.Chunk
open Idealize.ShloMosaic Idealize.ShloMosaic.ValueIdx Idealize.ShloMosaic.TcCoe Idealize.ShloMosaic.Tactic
open Idealize.SL.Sem
open Idealize.ShloMosaic.Pipeline (Dat)

/-! ## The results as functions of the whole arrays -/

def gcode (x : S2x384x36864.Idx → BitVec 8) (b s c : Nat) : BitVec 8 :=
  if h : b < 2 ∧ s < 384 ∧ c < 36864 then x (ValueIdx.ix3 ⟨b, h.1⟩ ⟨s, h.2.1⟩ ⟨c, h.2.2⟩) else 0#8
def gscale (x : S2x384x1152.Idx → BitVec 8) (b s c : Nat) : BitVec 8 :=
  if h : b < 2 ∧ s < 384 ∧ c < 1152 then x (ValueIdx.ix3 ⟨b, h.1⟩ ⟨s, h.2.1⟩ ⟨c, h.2.2⟩) else 0#8
/-- The value of a row and a column. -/
def gval (x : S2x384x36864.Idx → BitVec 8) (s : S2x384x1152.Idx → BitVec 8) (b : Nat) : Nat → Nat → EReal := vN (gcode x b) (gscale s b)
/-- The random word of a row and a column. -/
def grnd (K : Keys) (b s c : Nat) : BitVec 32 := (sphilox K (BitVec.ofNat 32 ((b * 384 + s) * 9216 + c / 4))).word (c % 4)
/-- The packed codes, and the scale bytes. -/
def G5 (x : S2x384x36864.Idx → BitVec 8) (s : S2x384x1152.Idx → BitVec 8) (u : S2.Idx → BitVec 32) : S2x192x36864.Idx → BitVec 8 :=
  fun y => codeN (gval x s (y 0).val) (grnd (keysOf u) (y 0).val) (y 1).val (y 2).val
def G6 (x : S2x384x36864.Idx → BitVec 8) (s : S2x384x1152.Idx → BitVec 8) : S2x12x36864.Idx → BitVec 8 :=
  fun y => (scaleByte (ebN (gval x s (y 0).val) (y 1).val (y 2).val)).setWidth 8

theorem ebN_congr (V V' : Nat → Nat → EReal) (g c c' : Nat) (h : ∀ i < 32, V (32 * g + i) c = V' (32 * g + i) c') : ebN V g c = ebN V' g c' := by
  unfold ebN
  congr 2
  funext i
  exact h i.val i.isLt

theorem codeN_congr (V V' : Nat → Nat → EReal) (R R' : Nat → Nat → BitVec 32) (p c c' : Nat)
    (h : ∀ i < 32, V (32 * (p / 16) + i) c = V' (32 * (p / 16) + i) c') (hr : ∀ s, R s c = R' s c') : codeN V R p c = codeN V' R' p c' := by
  have h0 := h (2 * p - 32 * (p / 16)) (by omega)
  have h1 := h (2 * p + 1 - 32 * (p / 16)) (by omega)
  rw [show 32 * (p / 16) + (2 * p - 32 * (p / 16)) = 2 * p by omega] at h0
  rw [show 32 * (p / 16) + (2 * p + 1 - 32 * (p / 16)) = 2 * p + 1 by omega] at h1
  unfold codeN
  rw [h0, h1, hr, hr, ebN_congr V V' _ c c' h]

theorem idx : ∀ t : Fin cfg0.N, win0_0.index t = ![0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val]
    ∧ win0_4.index t = ![(grid0.coords t 0).val, 0, (grid0.coords t 1).val] :=
  (by decide +kernel : ∀ t : Fin grid0.N, _)

variable (m : (ℓ : Loc nD τ sig) → Buf (Elt Ideal) ℓ)

theorem seed_blk (c : Dev nD) (t : Fin cfg0.N) : iblk m c 0 t = m ((c : Thread nD τ).loc main_arg2) := by
  blk_ext! [iblk, V, idx t]

theorem codes_blk (c : Dev nD) (t : Fin cfg0.N) (s cc : Nat) (hs : s < 384) (hc : cc < 4096) :
    codesN (iblk m c 1 t) s cc = gcode (m ((c : Thread nD τ).loc main_arg0)) (grid0.coords t 0).val s ((grid0.coords t 1).val * 4096 + cc) := by
  have h0 : (grid0.coords t 0).val < 2 := (grid0.coords t 0).isLt
  have h1 : (grid0.coords t 1).val < 9 := (grid0.coords t 1).isLt
  unfold codesN gcode
  rw [dif_pos ⟨hs, hc⟩, dif_pos ⟨h0, hs, by omega⟩]
  blk_ext [iblk, V, idx t]

theorem scales_blk (c : Dev nD) (t : Fin cfg0.N) (s cc : Nat) (hs : s < 384) (hc : cc < 128) :
    scalesN (iblk m c 2 t) s cc = gscale (m ((c : Thread nD τ).loc main_arg1)) (grid0.coords t 0).val s ((grid0.coords t 1).val * 128 + cc) := by
  have h0 : (grid0.coords t 0).val < 2 := (grid0.coords t 0).isLt
  have h1 : (grid0.coords t 1).val < 9 := (grid0.coords t 1).isLt
  unfold scalesN gscale
  rw [dif_pos ⟨hs, hc⟩, dif_pos ⟨h0, hs, by omega⟩]
  blk_ext [iblk, V, idx t]

theorem val_blk (c : Dev nD) (t : Fin cfg0.N) (s cc : Nat) (hs : s < 384) (hc : cc < 4096) :
    valN (iblk m c 1 t) (iblk m c 2 t) s cc = gval (m ((c : Thread nD τ).loc main_arg0)) (m ((c : Thread nD τ).loc main_arg1)) (grid0.coords t 0).val s ((grid0.coords t 1).val * 4096 + cc) := by
  unfold valN gval vN
  rw [codes_blk m c t s cc hs hc, scales_blk m c t s (cc / 32) hs (by omega)]
  rw [show (grid0.coords t 1).val * 128 + cc / 32 = ((grid0.coords t 1).val * 4096 + cc) / 32 by omega]

theorem final3 (c : Dev nD) : (dats m 0 c).arrAt 3 (cfgs 0).N
    = G5 (m ((c : Thread nD τ).loc main_arg0)) (m ((c : Thread nD τ).loc main_arg1)) (m ((c : Thread nD τ).loc main_arg2)) := by
  refine (dats m 0 c).arrAt_eq_of_covers 3 _ (by decide +kernel) fun t _ y => ?_
  have e0 : (((cfg0.win 3).blk t).view.emb y 0).val = (grid0.coords t 0).val := by
    blk_simp [idx t]
  have e1 : (((cfg0.win 3).blk t).view.emb y 1).val = (y 1).val := by
    blk_simp [idx t]
  have e2 : (((cfg0.win 3).blk t).view.emb y 2).val = (grid0.coords t 1).val * 4096 + (y 2).val := by
    blk_simp [idx t]
  have h1 : (y 1).val < 192 := (y 1).isLt
  have h2 : (y 2).val < 4096 := (y 2).isLt
  show (dats m 0 c).after 3 t y = codeN _ (grnd _ (((cfg0.win 3).blk t).view.emb y 0).val) (((cfg0.win 3).blk t).view.emb y 1).val (((cfg0.win 3).blk t).view.emb y 2).val
  rw [after0_3, e0, e1, e2, seed_blk]
  refine codeN_congr _ _ _ _ _ _ _ (fun i hi => val_blk m c t _ _ (by clear * - h1 hi; omega) h2) fun s => ?_
  unfold rN grnd
  rw [show ((grid0.coords t 0).val * 384 + s) * 9216 + ((grid0.coords t 1).val * 4096 + (y 2).val) / 4
    = ((grid0.coords t 0).val * 384 + s) * 9216 + (grid0.coords t 1).val * 1024 + (y 2).val / 4 by clear * -; omega,
    show ((grid0.coords t 1).val * 4096 + (y 2).val) % 4 = (y 2).val % 4 by clear * -; omega]

theorem final4 (c : Dev nD) : (dats m 0 c).arrAt 4 (cfgs 0).N
    = G6 (m ((c : Thread nD τ).loc main_arg0)) (m ((c : Thread nD τ).loc main_arg1)) := by
  refine (dats m 0 c).arrAt_eq_of_covers 4 _ (by decide +kernel) fun t _ y => ?_
  have e0 : (((cfg0.win 4).blk t).view.emb y 0).val = (grid0.coords t 0).val := by
    blk_simp [idx t]
  have e1 : (((cfg0.win 4).blk t).view.emb y 1).val = (y 1).val := by
    blk_simp [idx t]
  have e2 : (((cfg0.win 4).blk t).view.emb y 2).val = (grid0.coords t 1).val * 4096 + (y 2).val := by
    blk_simp [idx t]
  have h1 : (y 1).val < 12 := (y 1).isLt
  have h2 : (y 2).val < 4096 := (y 2).isLt
  show (dats m 0 c).after 4 t y = (scaleByte (ebN (gval _ _ (((cfg0.win 4).blk t).view.emb y 0).val) (((cfg0.win 4).blk t).view.emb y 1).val (((cfg0.win 4).blk t).view.emb y 2).val)).setWidth 8
  rw [after0_4, e0, e1, e2]
  refine congrArg (fun z => (scaleByte z).setWidth 8) (ebN_congr _ _ _ _ _ fun i hi => val_blk m c t _ _ (by clear * - h1 hi; omega) h2)

end Cert.KernelIdeal.Val

end
-- ==== Proof.RefWord.lean ====
/- The reference's random word of a row and a column is the kernel's. -/
module

public import proofs.«01_k».proof.Proof.RefRun
public import proofs.«01_k».proof.Proof.KernelVal
public import Idealize.ShloMosaic.Lib.Pointwise

@[expose] public section

set_option maxRecDepth 16384

noncomputable section

namespace Cert.ReferenceIdeal.Val

open Cert.ReferenceIdeal Cert.ReferenceIdeal.Gen
open Cert.KernelIdeal.Chunk (mulHi M0 M1 S4 sround sphilox Keys pick shr_ofNat shr_vec16 S4.word)
open Cert.KernelIdeal.Val (keysW grnd)
open Idealize.ShloMosaic

theorem and_ofNat (N : Nat) (h : N < 4294967296) : BitVec.ofNat 32 N &&& 65535#32 = BitVec.ofNat 32 (N % 65536) := by
  apply BitVec.eq_of_toNat_eq
  rw [BitVec.toNat_and]
  simp only [BitVec.toNat_ofNat]
  rw [Nat.mod_eq_of_lt (show N < 2 ^ 32 by omega), show 65535 % 2 ^ 32 = 2 ^ 16 - 1 by decide, Nat.and_two_pow_sub_one_eq_mod]
  omega

theorem limbs (A L H l : Nat) (hA : A < 65536) (hL : L < 65536) (hH : H < 65536) (hl : l < 65536) :
    BitVec.ofNat 32 A * BitVec.ofNat 32 H + (BitVec.ofNat 32 A * BitVec.ofNat 32 l + (BitVec.ofNat 32 L * BitVec.ofNat 32 l) >>> 16) >>> 16
      + (BitVec.ofNat 32 L * BitVec.ofNat 32 H + ((BitVec.ofNat 32 A * BitVec.ofNat 32 l + (BitVec.ofNat 32 L * BitVec.ofNat 32 l) >>> 16) &&& 65535#32)) >>> 16
      = BitVec.ofNat 32 ((65536 * H + l) * (65536 * A + L) / 4294967296) := by
  have b1 : L * l ≤ 65535 * 65535 := Nat.mul_le_mul (by omega) (by omega)
  have b2 : A * l ≤ 65535 * 65535 := Nat.mul_le_mul (by omega) (by omega)
  have b3 : L * H ≤ 65535 * 65535 := Nat.mul_le_mul (by omega) (by omega)
  have e : (65536 * H + l) * (65536 * A + L) = 4294967296 * (A * H) + 65536 * (A * l) + 65536 * (L * H) + L * l := by ring
  rw [e]
  rw [← BitVec.ofNat_mul, ← BitVec.ofNat_mul, ← BitVec.ofNat_mul, ← BitVec.ofNat_mul]
  generalize A * H = x0 at *
  generalize L * l = x1 at *
  generalize A * l = x2 at *
  generalize L * H = x3 at *
  clear hA hL hH hl e
  rw [shr_ofNat x1 (by omega), ← BitVec.ofNat_add]
  have b4 : x2 + x1 / 65536 < 4294967296 := by omega
  rw [shr_ofNat _ b4, and_ofNat _ b4, ← BitVec.ofNat_add, ← BitVec.ofNat_add, shr_ofNat _ (by omega), ← BitVec.ofNat_add]
  congr 1
  omega

theorem halves (x : BitVec 32) : ∃ H l : Nat, H < 65536 ∧ l < 65536 ∧ x = BitVec.ofNat 32 (65536 * H + l) ∧ x >>> 16 = BitVec.ofNat 32 H ∧ x &&& 65535#32 = BitVec.ofNat 32 l ∧ x.toNat = 65536 * H + l := by
  have hx := x.isLt
  have e : x = BitVec.ofNat 32 x.toNat := by simp
  refine ⟨x.toNat / 65536, x.toNat % 65536, by omega, by omega, ?_, ?_, ?_, by omega⟩
  · rw [show 65536 * (x.toNat / 65536) + x.toNat % 65536 = x.toNat by omega]; exact e
  · conv_lhs => rw [e]
    exact shr_ofNat _ (by omega)
  · conv_lhs => rw [e]
    exact and_ofNat _ (by omega)

theorem mh0_apply (b : T) (i : S2x384x36864.Idx) : mh 3528531795#32 b i = mulHi M0 (b i) := by
  show BitVec.ofNat 32 53841 * IntOp.shrui .vector (b i) 16#32 + IntOp.shrui .vector (BitVec.ofNat 32 53841 * (b i &&& 65535#32) + IntOp.shrui .vector (BitVec.ofNat 32 8019 * (b i &&& 65535#32)) 16#32) 16#32
    + IntOp.shrui .vector (BitVec.ofNat 32 8019 * IntOp.shrui .vector (b i) 16#32 + ((BitVec.ofNat 32 53841 * (b i &&& 65535#32) + IntOp.shrui .vector (BitVec.ofNat 32 8019 * (b i &&& 65535#32)) 16#32) &&& 65535#32)) 16#32 = _
  simp only [shr_vec16]
  obtain ⟨H, l, hH, hl, -, e2, e3, e4⟩ := halves (b i)
  unfold mulHi M0
  rw [e2, e3, e4, limbs _ _ _ _ (by decide) (by decide) hH hl]

theorem mh1_apply (b : T) (i : S2x384x36864.Idx) : mh 3449720151#32 b i = mulHi M1 (b i) := by
  show BitVec.ofNat 32 52638 * IntOp.shrui .vector (b i) 16#32 + IntOp.shrui .vector (BitVec.ofNat 32 52638 * (b i &&& 65535#32) + IntOp.shrui .vector (BitVec.ofNat 32 36183 * (b i &&& 65535#32)) 16#32) 16#32
    + IntOp.shrui .vector (BitVec.ofNat 32 36183 * IntOp.shrui .vector (b i) 16#32 + ((BitVec.ofNat 32 52638 * (b i &&& 65535#32) + IntOp.shrui .vector (BitVec.ofNat 32 36183 * (b i &&& 65535#32)) 16#32) &&& 65535#32)) 16#32 = _
  simp only [shr_vec16]
  obtain ⟨H, l, hH, hl, -, e2, e3, e4⟩ := halves (b i)
  unfold mulHi M1
  rw [e2, e3, e4, limbs _ _ _ _ (by decide) (by decide) hH hl]

/-- The four words at an index. -/
def RSt.at (s : RSt) (i : S2x384x36864.Idx) : S4 := ⟨s.c0 i, s.c1 i, s.c2 i, s.c3 i⟩

theorem round_at (k l : BitVec 32) (s : RSt) (i : S2x384x36864.Idx) : (round k l s).at i = sround k l (s.at i) := by
  show S4.mk (mh 3449720151#32 s.c2 i ^^^ s.c1 i ^^^ k) (3449720151#32 * s.c2 i) (mh 3528531795#32 s.c0 i ^^^ s.c3 i ^^^ l) (3528531795#32 * s.c0 i) = _
  rw [mh0_apply, mh1_apply, BitVec.mul_comm, BitVec.mul_comm 3528531795#32]
  rfl

theorem philox_at (w u : BitVec 32) (c : T) (i : S2x384x36864.Idx) : (philox w u c).at i = sphilox (keysW w u) (c i) := by
  unfold philox sphilox
  simp only [round_at, keysW, Scalar.addi, IntOp.addi, BitVec.add_assoc, BitVec.reduceAdd, BitVec.add_zero]
  rfl

theorem counter_apply (b : Fin 2) (s : Fin 384) (c : Fin 36864) : k0_pay3 (ix3 b s c) = BitVec.ofNat 32 ((b.val * 384 + s.val) * 9216 + c.val / 4) := by
  have hb := b.isLt; have hs := s.isLt; have hc := c.isLt
  show IntOp.addi (IntOp.muli (IntOp.addi (IntOp.muli (iota .tc S2x384x36864 32 [0] iota_S2x384x36864_d0_w32 (ix3 b s c)) 384#32) (iota .tc S2x384x36864 32 [1] iota_S2x384x36864_d1_w32 (ix3 b s c))) 9216#32)
    (IntOp.shrui .vector (iota .tc S2x384x36864 32 [2] iota_S2x384x36864_d2_w32 (ix3 b s c)) 2#32) = _
  rw [iota_single_apply, iota_single_apply, iota_single_apply]
  show (BitVec.ofNat 32 b.val * BitVec.ofNat 32 384 + BitVec.ofNat 32 s.val) * BitVec.ofNat 32 9216 + IntOp.shrui .vector (BitVec.ofNat 32 c.val) 2#32 = _
  have e : IntOp.shrui .vector (BitVec.ofNat 32 c.val) 2#32 = BitVec.ofNat 32 (c.val / 4) := by
    unfold IntOp.shrui; rw [if_pos (by decide)]
    apply BitVec.eq_of_toNat_eq
    show (BitVec.ofNat 32 c.val >>> 2).toNat = _
    rw [BitVec.toNat_ushiftRight, BitVec.toNat_ofNat, BitVec.toNat_ofNat, Nat.shiftRight_eq_div_pow]
    omega
  rw [e, ← BitVec.ofNat_mul, ← BitVec.ofNat_add, ← BitVec.ofNat_mul, ← BitVec.ofNat_add]

theorem lane_apply (b : Fin 2) (s : Fin 384) (c : Fin 36864) :
    andi (iota .tc S2x384x36864 32 [2] iota_S2x384x36864_d2_w32) (bcT 3#32) (ix3 b s c) = BitVec.ofNat 32 (c.val % 4) := by
  have hc := c.isLt
  show (iota .tc S2x384x36864 32 [2] iota_S2x384x36864_d2_w32 (ix3 b s c)) &&& 3#32 = _
  rw [iota_single_apply]
  show BitVec.ofNat 32 c.val &&& 3#32 = _
  apply BitVec.eq_of_toNat_eq
  rw [BitVec.toNat_and]
  simp only [BitVec.toNat_ofNat]
  rw [Nat.mod_eq_of_lt (show c.val < 2 ^ 32 by omega), show 3 % 2 ^ 32 = 2 ^ 2 - 1 by decide, Nat.and_two_pow_sub_one_eq_mod]
  omega

theorem rword_apply (w u : BitVec 32) (b : Fin 2) (s : Fin 384) (c : Fin 36864) : rword w u (ix3 b s c) = grnd (keysW w u) b.val s.val c.val := by
  have h : (philox w u k0_pay3).at (ix3 b s c) = sphilox (keysW w u) (BitVec.ofNat 32 ((b.val * 384 + s.val) * 9216 + c.val / 4)) := by
    rw [philox_at, counter_apply]
  unfold grnd
  rw [← h]
  show Scalar.select (IntOp.cmpi .eq (andi (iota .tc S2x384x36864 32 [2] iota_S2x384x36864_d2_w32) (bcT 3#32) (ix3 b s c)) 0#32) ((philox w u k0_pay3).c0 (ix3 b s c))
    (Scalar.select (IntOp.cmpi .eq (andi (iota .tc S2x384x36864 32 [2] iota_S2x384x36864_d2_w32) (bcT 3#32) (ix3 b s c)) 1#32) ((philox w u k0_pay3).c1 (ix3 b s c))
    (Scalar.select (IntOp.cmpi .eq (andi (iota .tc S2x384x36864 32 [2] iota_S2x384x36864_d2_w32) (bcT 3#32) (ix3 b s c)) 2#32) ((philox w u k0_pay3).c2 (ix3 b s c)) ((philox w u k0_pay3).c3 (ix3 b s c)))) = _
  rw [lane_apply]
  have h4 : c.val % 4 < 4 := Nat.mod_lt _ (by decide)
  generalize c.val % 4 = j at h4 ⊢
  generalize philox w u k0_pay3 = P
  unfold S4.word pick RSt.at
  interval_cases j <;> rfl

end Cert.ReferenceIdeal.Val

end
-- ==== Proof.RefVal.lean ====
/- The reference's two results, element by element, from the values and the random words. -/
module

public import proofs.«01_k».proof.Proof.RefRun
public import Idealize.ShloMosaic.Lib.Pointwise

@[expose] public section

set_option maxRecDepth 16384

noncomputable section

namespace Cert.ReferenceIdeal.Val

open Cert.ReferenceIdeal Cert.ReferenceIdeal.Gen
open Idealize.ShloMosaic

/-! ## One element -/

abbrev cst (b : BitVec 32) : Ideal .f32 := FloatOps.ofBits .f32 b

/-- A group's exponent from its greatest magnitude. -/
def rExp (M : Ideal .f32) : Ideal .f32 :=
  Scalar.select (FloatOps.cmpf .oeq M (cst 0x00000000#32)) (cst 0x00000000#32)
    (FloatOps.subf (FloatOps.addf (FloatOps.floor (FloatOps.divf (FloatOps.log M) (Named.named κ "ln2" 0x3F317218#32))) (cst 0x3F800000#32)) (cst 0x40400000#32))
/-- A magnitude on the scale of its group. -/
def rQ (v e : Ideal .f32) : Ideal .f32 :=
  FloatOps.mulf (FloatOps.mulf (FloatOps.absf v) (cst 0x3F400000#32)) (FloatOps.exp2 (FloatOps.subf (cst 0x00000000#32) e))
/-- The index of the grid point below a magnitude, -/
def rIdx (a : Ideal .f32) : Ideal .f32 :=
  Scalar.select (FloatOps.cmpf .olt a (cst 0x40000000#32)) (FloatOps.floor (FloatOps.mulf a (cst 0x40000000#32)))
    (Scalar.select (FloatOps.cmpf .olt a (cst 0x40800000#32)) (FloatOps.addf (cst 0x40800000#32) (FloatOps.floor (FloatOps.subf a (cst 0x40000000#32)))) (cst 0x40C00000#32))
/-- and how far it is towards the next one. -/
def rFrac (a : Ideal .f32) : Ideal .f32 :=
  Scalar.select (FloatOps.cmpf .olt a (cst 0x40000000#32)) (FloatOps.subf (FloatOps.mulf a (cst 0x40000000#32)) (FloatOps.floor (FloatOps.mulf a (cst 0x40000000#32))))
    (Scalar.select (FloatOps.cmpf .olt a (cst 0x40800000#32)) (FloatOps.subf (FloatOps.subf a (cst 0x40000000#32)) (FloatOps.floor (FloatOps.subf a (cst 0x40000000#32))))
      (FloatOps.mulf (FloatOps.subf a (cst 0x40800000#32)) (cst 0x3F000000#32)))
/-- A random word as a number of [0, 1). -/
def rU (r : BitVec 32) : Ideal .f32 := FloatOps.mulf (FloatOps.uitofp .f32 (IntOp.shrui .vector r 8#32)) (cst 0x33800000#32)
/-- The code of a value. -/
def rNib (v e : Ideal .f32) (r : BitVec 32) : BitVec 8 :=
  IntOp.ori (IntOp.addi (FloatOps.fptoui 8 (rIdx (rQ v e))) ((FloatOps.cmpf .olt (rU r) (rFrac (rQ v e))).setWidth 8))
    (Scalar.select (FloatOps.cmpf .olt v (cst 0x00000000#32)) 8#8 0#8)
/-- The byte of two codes. -/
def rPack (n0 n1 : BitVec 8) : BitVec 8 := IntOp.ori n0 (IntOp.shli .vector n1 4#8)
/-- The scale byte of an exponent. -/
def rScale (e : Ideal .f32) : BitVec 8 := (IntOp.addi (FloatOps.fptosi 32 e) 127#32).setWidth 8
/-- A value from its code and its scale byte. -/
def rVal (x s : BitVec 8) : Ideal .f32 :=
  FloatOps.mulf (FloatOps.extf .f32 bitsLt_fp8e4m3_f32 (FloatOps.ofBits (F := Ideal) .fp8e4m3 x)) (FloatOps.exp2 (FloatOps.sitofp .f32 (IntOp.subi (s.setWidth 32) 127#32)))

/-! ## The values -/

theorem rval_apply (x : Vec Ideal S2x384x36864 .i8) (s : Vec Ideal S2x384x1152 .i8) (b : Fin 2) (r : Fin 384) (c : Fin 36864) :
    rval x s (ix3 b r c) = rVal (x (ix3 b r c)) (s (ix3 b r ⟨c.val / 32, by omega⟩)) := by
  pointwise [rval, k0_pay2]
  rfl

/-! ## The reduction -/

theorem mr_fold {n0 n1 n2 n3 : Nat} {t : Shape} {φ : FTy} (h : (⟨4, ![n0, n1, n2, n3]⟩ : Shape).Reduces [2] t)
    (v : FVec Ideal (⟨4, ![n0, n1, n2, n3]⟩ : Shape) φ) (acc : BitVec φ.bits) (hφ : FKind.Formats φ) (hacc : acc = FKind.maximumf.neutral φ hφ) (j : t.Idx) :
    multiReduction .maximumf [2] t v acc h hφ hacc j = (Finset.univ : Finset (Fin n2)).fold max (Ideal.ofBits φ acc) (fun k => v (ix4 ⟨(j ⟨0, h.lt_r4_a2_0⟩).val, Shape.coordLt (j ⟨0, h.lt_r4_a2_0⟩) h.size_r4_a2_0⟩ ⟨(j ⟨1, h.lt_r4_a2_1⟩).val, Shape.coordLt (j ⟨1, h.lt_r4_a2_1⟩) h.size_r4_a2_1⟩ k ⟨(j ⟨2, h.lt_r4_a2_2⟩).val, Shape.coordLt (j ⟨2, h.lt_r4_a2_2⟩) h.size_r4_a2_2⟩)) := by
  rw [multiReduction_maximumf_eq_fold]
  exact h.fold_fiber_r4_a2 j _ _ _

/-- The greatest of 32 along the third axis. -/
def gmax (v : FVec Ideal S2x12x32x36864 .f32) : FVec Ideal S2x12x36864 .f32 :=
  multiReduction .maximumf [2] S2x12x36864 v 0xFF800000#32 reduces_S2x12x32x36864_S2x12x36864 (.inl rfl) rfl

theorem mr_fold3 {n0 n1 n2 n3 : Nat} {φ : FTy} (h : (⟨4, ![n0, n1, n2, n3]⟩ : Shape).Reduces [2] (⟨3, ![n0, n1, n3]⟩ : Shape))
    (v : FVec Ideal (⟨4, ![n0, n1, n2, n3]⟩ : Shape) φ) (acc : BitVec φ.bits) (hφ : FKind.Formats φ) (hacc : acc = FKind.maximumf.neutral φ hφ)
    (b : Fin n0) (g : Fin n1) (c : Fin n3) :
    multiReduction .maximumf [2] (⟨3, ![n0, n1, n3]⟩ : Shape) v acc h hφ hacc (ix3 b g c)
      = (Finset.univ : Finset (Fin n2)).fold max (Ideal.ofBits φ acc) (fun k => v (ix4 b g k c)) := by
  rw [mr_fold]; rfl

theorem gmax_apply (v : FVec Ideal S2x12x32x36864 .f32) (b : Fin 2) (g : Fin 12) (c : Fin 36864) :
    gmax v (ix3 b g c) = (Finset.univ : Finset (Fin 32)).fold max (Ideal.ofBits .f32 0xFF800000#32) (fun k => v (ix4 b g k c)) := by
  unfold gmax
  exact mr_fold3 reduces_S2x12x32x36864_S2x12x36864 v 0xFF800000#32 _ _ b g c

theorem pay87_apply {F : FTy → Type} [FloatOps F] [Named F] (V : FVec F S2x384x36864 .f32) (b : Fin 2) (g : Fin 12) (ρ : Fin 32) (c : Fin 36864) :
    k0_pay87 V (ix4 b g ρ c) = V (ix3 b ⟨g.val * 32 + ρ.val, by omega⟩ c) := by
  pointwise [k0_pay87]

/-- The exponents of all the groups from their greatest magnitudes. -/
def expv (M : FVec Ideal S2x12x36864 .f32) : FVec Ideal S2x12x36864 .f32 :=
  select (cmpf .oeq M (broadcast S2x12x36864 (Scalar.ofBits .f32 0x00000000#32))) (broadcast S2x12x36864 (Scalar.ofBits .f32 0x00000000#32))
    (subf (addf (floor (divf (log M) (broadcast S2x12x36864 (Named.named κ "ln2" 0x3F317218#32)))) (broadcast S2x12x36864 (Scalar.ofBits .f32 0x3F800000#32)))
      (broadcast S2x12x36864 (Scalar.ofBits .f32 0x40400000#32)))

theorem expv_apply (M : FVec Ideal S2x12x36864 .f32) (i : S2x12x36864.Idx) : expv M i = rExp (M i) := rfl

theorem pay88_eq (V : FVec Ideal S2x384x36864 .f32) : k0_pay88 V = expv (gmax (absf (k0_pay87 V))) := by
  unfold k0_pay88 expv gmax
  with_reducible rfl

/-- The exponent of a group of a column. -/
theorem pay88_apply (V : FVec Ideal S2x384x36864 .f32) (b : Fin 2) (g : Fin 12) (c : Fin 36864) :
    k0_pay88 V (ix3 b g c) = rExp ((Finset.univ : Finset (Fin 32)).fold max (Ideal.ofBits .f32 0xFF800000#32)
      (fun k => FloatOps.absf (V (ix3 b ⟨g.val * 32 + k.val, by omega⟩ c)))) := by
  rw [pay88_eq, expv_apply, gmax_apply]
  congr 2
  funext k
  show FloatOps.absf (k0_pay87 V (ix4 b g k c)) = _
  rw [pay87_apply]

theorem rscales_eq (V : FVec Ideal S2x384x36864 .f32) (i : S2x12x36864.Idx) : rscales V i = rScale (k0_pay88 V i) := by
  unfold rscales k0_pay91 k0_pay90 k0_pay89 rScale
  generalize k0_pay88 V = e
  rfl

/-! ## The codes -/

theorem bcast_apply (w : FVec Ideal S2x12x36864 .f32) (b : Fin 2) (g : Fin 12) (ρ : Fin 32) (c : Fin 36864) :
    broadcastTo S2x12x32x36864 (shapeCast S2x12x1x36864 w shapeCasts_S2x12x36864_S2x12x1x36864) broadcasts_S2x12x1x36864_S2x12x32x36864 (ix4 b g ρ c)
      = w (ix3 b g c) := by
  pointwise

theorem pay92_apply (v : FVec Ideal S2x12x32x36864 .f32) (e : FVec Ideal S2x12x36864 .f32) (b : Fin 2) (g : Fin 12) (ρ : Fin 32) (c : Fin 36864) :
    k0_pay92 v e (ix4 b g ρ c) = rQ (v (ix4 b g ρ c)) (e (ix3 b g c)) := by
  show FloatOps.mulf _ (broadcastTo S2x12x32x36864 (shapeCast S2x12x1x36864 (exp2 (subf (broadcast S2x12x36864 (cst 0x00000000#32)) e)) shapeCasts_S2x12x36864_S2x12x1x36864) broadcasts_S2x12x1x36864_S2x12x32x36864 (ix4 b g ρ c)) = _
  rw [bcast_apply]; rfl

theorem cast_apply (R : T) (b : Fin 2) (g : Fin 12) (ρ : Fin 32) (c : Fin 36864) :
    shapeCast S2x12x32x36864 R shapeCasts_S2x384x36864_S2x12x32x36864 (ix4 b g ρ c) = R (ix3 b ⟨g.val * 32 + ρ.val, by omega⟩ c) := by
  pointwise

theorem pay100_apply (R : T) (b : Fin 2) (g : Fin 12) (ρ : Fin 32) (c : Fin 36864) :
    k0_pay100 (F := Ideal) R (ix4 b g ρ c) = rU (R (ix3 b ⟨g.val * 32 + ρ.val, by omega⟩ c)) := by
  show rU (shapeCast S2x12x32x36864 R shapeCasts_S2x384x36864_S2x12x32x36864 (ix4 b g ρ c)) = _
  rw [cast_apply]

/-- The codes of all the values. -/
def nibv (v : FVec Ideal S2x12x32x36864 .f32) (e : FVec Ideal S2x12x36864 .f32) (U : FVec Ideal S2x12x32x36864 .f32) : IVec S2x12x32x36864 8 :=
  ori (addi (fptoui 8 (k0_pay98 v e)) (extui 8 (cmpf .olt U (k0_pay99 v e)) natLt_1_8))
    (select (cmpf .olt v (broadcast S2x12x32x36864 (cst 0x00000000#32))) (broadcast S2x12x32x36864 8#8) (broadcast S2x12x32x36864 0#8))
/-- Two rows to a byte. -/
def packv (n : IVec S2x12x32x36864 8) : IVec S2x192x36864 8 :=
  have v749 : IVec S2x192x2x36864 8 := shapeCast S2x192x2x36864 n shapeCasts_S2x12x32x36864_S2x192x2x36864
  have v750 : IVec S2x192x1x36864 8 := extractStridedSlice S2x192x1x36864 ![0, 0, 0, 0] v749 slices_S2x192x2x36864_o0_0_0_0_S2x192x1x36864
  have v751 : IVec S2x192x36864 8 := shapeCast S2x192x36864 v750 shapeCasts_S2x192x1x36864_S2x192x36864
  have v752 : IVec S2x192x1x36864 8 := extractStridedSlice S2x192x1x36864 ![0, 0, 1, 0] v749 slices_S2x192x2x36864_o0_0_1_0_S2x192x1x36864
  have v753 : IVec S2x192x36864 8 := shapeCast S2x192x36864 v752 shapeCasts_S2x192x1x36864_S2x192x36864
  ori v751 (shli v753 (broadcast S2x192x36864 4#8))

theorem packv_apply (n : IVec S2x12x32x36864 8) (b : Fin 2) (p : Fin 192) (c : Fin 36864) :
    packv n (ix3 b p c) = rPack (n (ix4 b ⟨p.val / 16, by omega⟩ ⟨p.val % 16 * 2, by omega⟩ c)) (n (ix4 b ⟨p.val / 16, by omega⟩ ⟨p.val % 16 * 2 + 1, by omega⟩ c)) := by
  pointwise [packv]
  rfl

theorem nibv_apply (v : FVec Ideal S2x12x32x36864 .f32) (e : FVec Ideal S2x12x36864 .f32) (R : T) (b : Fin 2) (g : Fin 12) (ρ : Fin 32) (c : Fin 36864) :
    nibv v e (k0_pay100 R) (ix4 b g ρ c) = rNib (v (ix4 b g ρ c)) (e (ix3 b g c)) (R (ix3 b ⟨g.val * 32 + ρ.val, by omega⟩ c)) := by
  show IntOp.ori (IntOp.addi (FloatOps.fptoui 8 (rIdx (k0_pay92 v e (ix4 b g ρ c)))) ((FloatOps.cmpf .olt (k0_pay100 (F := Ideal) R (ix4 b g ρ c)) (rFrac (k0_pay92 v e (ix4 b g ρ c)))).setWidth 8)) _ = _
  rw [pay92_apply, pay100_apply]; rfl

theorem rcodes_eq (V : FVec Ideal S2x384x36864 .f32) (R : T) : rcodes V R = packv (nibv (k0_pay87 V) (k0_pay88 V) (k0_pay100 R)) := by
  unfold rcodes
  generalize k0_pay87 V = v
  generalize k0_pay88 V = e
  rfl

/-- The byte of a pair of rows of a column. -/
theorem rcodes_apply (V : FVec Ideal S2x384x36864 .f32) (R : T) (b : Fin 2) (p : Fin 192) (c : Fin 36864) :
    rcodes V R (ix3 b p c) = rPack
      (rNib (V (ix3 b ⟨p.val / 16 * 32 + p.val % 16 * 2, by omega⟩ c)) (k0_pay88 V (ix3 b ⟨p.val / 16, by omega⟩ c)) (R (ix3 b ⟨p.val / 16 * 32 + p.val % 16 * 2, by omega⟩ c)))
      (rNib (V (ix3 b ⟨p.val / 16 * 32 + (p.val % 16 * 2 + 1), by omega⟩ c)) (k0_pay88 V (ix3 b ⟨p.val / 16, by omega⟩ c)) (R (ix3 b ⟨p.val / 16 * 32 + (p.val % 16 * 2 + 1), by omega⟩ c))) := by
  rw [rcodes_eq, packv_apply, nibv_apply, nibv_apply, pay87_apply, pay87_apply]

end Cert.ReferenceIdeal.Val

end
-- ==== Proof.RefArr.lean ====
/- The two result arrays of the reference's idealisation after its launch, as functions of its arguments. -/
module

public import proofs.«01_k».proof.Proof.RefWord
public import proofs.«01_k».proof.Proof.RefVal
public import Idealize.ShloMosaic.Lib.Pipeline.ValueKit

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL.Sem
open Idealize.ShloMosaic.Pipeline (Dat)

section
variable (arg0 : Memref sig .tc .vmem S2x384x36864 .i8) (harg0 : arg0.IsWhole) (arg1 : Memref sig .tc .vmem S2x384x1152 .i8) (harg1 : arg1.IsWhole) (arg2 : Memref sig .tc .smem S2 .i32) (harg2 : arg2.IsWhole)
    (x0 : Vec Ideal S2x384x36864 .i8) (x1 : Vec Ideal S2x384x1152 .i8) (x2 : Vec Ideal S2 .i32)

theorem rdX_eq : rdX arg0 harg0 x0 = x0 := by
  unfold rdX
  rw [View.readAt_eq_ld]
  frame_out

theorem rdS_eq : rdS arg1 harg1 x1 = x1 := by
  unfold rdS
  rw [View.readAt_eq_ld]
  frame_out

theorem rdW_eq : rdW arg2 harg2 x2 = x2 (ix1 0) := by
  unfold rdW
  rw [View.readAt_eq_ld, harg2.read_unread]
  exact congrArg x2 (by decide +kernel)
theorem rdU_eq : rdU arg2 harg2 x2 = x2 (ix1 1) := by
  unfold rdU
  rw [View.readAt_eq_ld, harg2.read_unread]
  exact congrArg x2 (by decide +kernel)
end

variable (m : (ℓ : Loc nD τ sig) → Buf (Elt Ideal) ℓ)

theorem wi0 : ∀ d, win0_0.index t0_0 d = 0 := by decide +kernel
theorem wi1 : ∀ d, win0_1.index t0_0 d = 0 := by decide +kernel
theorem wi2 : ∀ d, win0_2.index t0_0 d = 0 := by decide +kernel

theorem blk0 (c : Dev nD) : iblk m c 0 t0_0 = m ((c : Thread nD τ).loc main_arg0) := by blk_ext! [iblk, V, wi0]
theorem blk1 (c : Dev nD) : iblk m c 1 t0_0 = m ((c : Thread nD τ).loc main_arg1) := by blk_ext! [iblk, V, wi1]
theorem blk2 (c : Dev nD) : iblk m c 2 t0_0 = m ((c : Thread nD τ).loc main_arg2) := by blk_ext! [iblk, V, wi2]

/-- The packed codes. -/
theorem final3 (c : Dev nD) : (dats m 0 c).arrAt 3 (cfgs 0).N
    = rcodes (rval (m ((c : Thread nD τ).loc main_arg0)) (m ((c : Thread nD τ).loc main_arg1))) (rword (m ((c : Thread nD τ).loc main_arg2) (ix1 0)) (m ((c : Thread nD τ).loc main_arg2) (ix1 1))) := by
  refine (dats m 0 c).arrAt_eq_of_after_last 3 t0_0 (by decide +kernel) _ fun j => ?_
  blk_simp
  rw [after0_3]
  unfold outsAt0 out0_A_3
  rw [run_codes, rdX_eq, rdS_eq, rdW_eq, rdU_eq, blk0, blk1, blk2]
  generalize rcodes _ _ = X
  frame_out

/-- The scale bytes. -/
theorem final4 (c : Dev nD) : (dats m 0 c).arrAt 4 (cfgs 0).N
    = rscales (rval (m ((c : Thread nD τ).loc main_arg0)) (m ((c : Thread nD τ).loc main_arg1))) := by
  refine (dats m 0 c).arrAt_eq_of_after_last 4 t0_0 (by decide +kernel) _ fun j => ?_
  blk_simp
  rw [after0_4]
  unfold outsAt0 out0_A_4
  rw [run_scales, rdX_eq, rdS_eq, blk0, blk1]
  generalize rscales _ = X
  frame_out

end Cert.ReferenceIdeal.Val

end
-- ==== Proof.Num.lean ====
/- The arithmetic of one group of 32 values, kernel against reference: the exponent found bit by bit is the logarithm's floor, and the
   byte built by the kernel's axis of doubled magnitudes is the reference's. -/
module

public import proofs.«01_k».proof.Proof.RefVal
public import proofs.«01_k».proof.Proof.Scales
public import proofs.«01_k».proof.Proof.Pass

@[expose] public section

set_option maxRecDepth 16384

noncomputable section

namespace Cert.KernelIdeal.Num

open Cert.KernelIdeal.Chunk
open Cert.ReferenceIdeal.Val (rExp rQ rIdx rFrac rU rNib rPack rScale rVal)
open Idealize.ShloMosaic

/-! ## Bit patterns -/

theorem pw_bits : ∀ t : Fin 255, ((BitVec.ofNat 32 t.val <<< 23).extractLsb' 31 1 == 1#1) = false
    ∧ ((BitVec.ofNat 32 t.val <<< 23).extractLsb' 23 8).toNat = t.val ∧ ((BitVec.ofNat 32 t.val <<< 23).extractLsb' 0 23).toNat = 0 := by
  decide +kernel

/-- A normal pattern's number. -/
theorem ieee_norm (e m : Nat) {w : Nat} (b : BitVec w) (ex fr : Nat) (z : ℤ) (h0 : (b.extractLsb' (e + m) 1 == 1#1) = false) (h1 : (b.extractLsb' m e).toNat = ex)
    (h2 : (b.extractLsb' 0 m).toNat = fr) (h3 : ex ≠ 0) (h4 : ex ≠ 2 ^ e - 1) (hz : (ex : ℤ) - (2 ^ (e - 1) - 1) - m = z) :
    Ideal.ieee e m b = ((((2 ^ m + fr : Nat) : ℝ) * (2 : ℝ) ^ z : ℝ) : EReal) := by
  unfold Ideal.ieee
  simp only [h0, h1, h2, if_neg h3, if_neg h4, hz, Bool.false_eq_true, if_false, one_mul]

/-- A biased exponent's power of two. -/
theorem pw (t : Nat) (h1 : 1 ≤ t) (h2 : t ≤ 254) : Ideal.ofBits .f32 (BitVec.ofNat 32 t <<< 23) = (((2 : ℝ) ^ ((t : ℤ) - 127) : ℝ) : EReal) := by
  obtain ⟨b0, b1, b2⟩ := pw_bits ⟨t, by omega⟩
  refine (ieee_norm 8 23 _ t 0 ((t : ℤ) - 127 - 23) b0 b1 b2 (by omega) (by omega) (by norm_num)).trans (congrArg Real.toEReal ?_)
  rw [zpow_sub₀ (by norm_num)]
  norm_num
  ring

theorem pw_top : Ideal.ofBits .f32 (BitVec.ofNat 32 255 <<< 23) = ⊤ := by
  show Ideal.ieee 8 23 (BitVec.ofNat 32 255 <<< 23) = _
  unfold Ideal.ieee
  rw [if_pos (by decide), if_pos (by decide), if_neg (by decide)]

theorem gain_bits : ∀ t : Fin 255, 2 ≤ t.val → ∀ h : Fin 2,
    (((2151710784#32 - BitVec.ofNat 32 t.val * 8388736#32).extractLsb' (16 * h.val) 16).extractLsb' 15 1 == 1#1) = false
    ∧ (((2151710784#32 - BitVec.ofNat 32 t.val * 8388736#32).extractLsb' (16 * h.val) 16).extractLsb' 7 8).toNat = 256 - t.val
    ∧ (((2151710784#32 - BitVec.ofNat 32 t.val * 8388736#32).extractLsb' (16 * h.val) 16).extractLsb' 0 7).toNat = 64 := by
  decide +kernel

/-- The gain of a group: three halves of a power of two. -/
theorem gain_eq (E h : Nat) (h1 : 2 ≤ E) (h2 : E ≤ 254) (hh : h < 2) : gainS Ideal (BitVec.ofNat 32 E) h = ((3 / 2 * (2 : ℝ) ^ (129 - (E : ℤ)) : ℝ) : EReal) := by
  obtain ⟨b0, b1, b2⟩ := gain_bits ⟨E, by omega⟩ h1 ⟨h, hh⟩
  refine (ieee_norm 8 7 _ (256 - E) 64 (129 - (E : ℤ) - 7) b0 b1 b2 (by omega) (by omega) (by push_cast [show E ≤ 256 by omega]; ring)).trans (congrArg Real.toEReal ?_)
  rw [zpow_sub₀ (by norm_num)]
  norm_num
  ring

theorem gain_zero (h : Nat) (hh : h < 2) : ∃ r : ℝ, gainS Ideal 0#32 h = (r : EReal) := by
  have key : ∀ b : BitVec 16, (b.extractLsb' 7 8).toNat = 0 → ∃ r : ℝ, Ideal.ieee 8 7 b = (r : EReal) := fun b hb => by
    unfold Ideal.ieee
    simp only [hb, if_true, if_neg (show ¬ (0 : ℕ) = 2 ^ 8 - 1 by decide)]
    exact ⟨_, rfl⟩
  exact key _ ((by decide +kernel : ∀ h : Fin 2, (((2151710784#32 - 0#32 * 8388736#32).extractLsb' (16 * h.val) 16).extractLsb' 7 8).toNat = 0) ⟨h, hh⟩)

theorem coe_max' (a b : ℝ) : max (a : EReal) (b : EReal) = ((max a b : ℝ) : EReal) := (EReal.coe_strictMono.monotone.map_max).symm
theorem coe_min' (a b : ℝ) : min (a : EReal) (b : EReal) = ((min a b : ℝ) : EReal) := (EReal.coe_strictMono.monotone.map_min).symm
theorem coe_abs' (a : ℝ) : max (a : EReal) (-(a : EReal)) = ((|a| : ℝ) : EReal) := by
  rw [← EReal.coe_neg, coe_max']; rfl

theorem c16 (b : BitVec 16) (ex fr : Nat) (h0 : (b.extractLsb' 15 1 == 1#1) = false) (h1 : (b.extractLsb' 7 8).toNat = ex) (h2 : (b.extractLsb' 0 7).toNat = fr)
    (h3 : 0 < ex) (h4 : ex < 255) : cstS Ideal b = (((128 + (fr : ℝ)) * (2 : ℝ) ^ ((ex : ℤ) - 134) : ℝ) : EReal) := by
  refine (ieee_norm 8 7 b ex fr ((ex : ℤ) - 134) h0 h1 h2 (by omega) (by omega) (by ring)).trans (congrArg Real.toEReal ?_)
  norm_num

theorem c32 (b : BitVec 32) (ex fr : Nat) (h0 : (b.extractLsb' 31 1 == 1#1) = false) (h1 : (b.extractLsb' 23 8).toNat = ex) (h2 : (b.extractLsb' 0 23).toNat = fr)
    (h3 : 0 < ex) (h4 : ex < 255) : Ideal.ofBits .f32 b = (((8388608 + (fr : ℝ)) * (2 : ℝ) ^ ((ex : ℤ) - 150) : ℝ) : EReal) := by
  refine (ieee_norm 8 23 b ex fr ((ex : ℤ) - 150) h0 h1 h2 (by omega) (by omega) (by ring)).trans (congrArg Real.toEReal ?_)
  norm_num

theorem k_half : cstS Ideal 0x3F00#16 = ((1 / 2 : ℝ) : EReal) := by rw [c16 _ 126 0 (by decide) (by decide) (by decide) (by decide) (by decide)]; norm_num
theorem k_quarter : cstS Ideal 0x3E80#16 = ((1 / 4 : ℝ) : EReal) := by rw [c16 _ 125 0 (by decide) (by decide) (by decide) (by decide) (by decide)]; norm_num
theorem k_two : cstS Ideal 0x4000#16 = ((2 : ℝ) : EReal) := by rw [c16 _ 128 0 (by decide) (by decide) (by decide) (by decide) (by decide)]; norm_num
theorem k_four : cstS Ideal 0x4080#16 = ((4 : ℝ) : EReal) := by rw [c16 _ 129 0 (by decide) (by decide) (by decide) (by decide) (by decide)]; norm_num
theorem k_big : cstS Ideal 0x4B80#16 = ((16777216 : ℝ) : EReal) := by rw [c16 _ 151 0 (by decide) (by decide) (by decide) (by decide) (by decide)]; norm_num
theorem k_136 : cstS Ideal 0x4308#16 = ((136 : ℝ) : EReal) := by rw [c16 _ 134 8 (by decide) (by decide) (by decide) (by decide) (by decide)]; norm_num
theorem k_128 : cstS Ideal 0x4300#16 = ((128 : ℝ) : EReal) := by rw [c16 _ 134 0 (by decide) (by decide) (by decide) (by decide) (by decide)]; norm_num
theorem k_zero : cstS Ideal 0x0000#16 = ((0 : ℝ) : EReal) := by
  show Ideal.ofBits .bf16 0x0000#16 = _
  simp [Ideal.ofBits, Ideal.ieee]
theorem f_zero : Ideal.ofBits .f32 0x00000000#32 = ((0 : ℝ) : EReal) := by simp [Ideal.ofBits, Ideal.ieee]
theorem f_two : Ideal.ofBits .f32 0x40000000#32 = ((2 : ℝ) : EReal) := by rw [c32 _ 128 0 (by decide) (by decide) (by decide) (by decide) (by decide)]; norm_num
theorem f_four : Ideal.ofBits .f32 0x40800000#32 = ((4 : ℝ) : EReal) := by rw [c32 _ 129 0 (by decide) (by decide) (by decide) (by decide) (by decide)]; norm_num
theorem f_six : Ideal.ofBits .f32 0x40C00000#32 = ((6 : ℝ) : EReal) := by rw [c32 _ 129 4194304 (by decide) (by decide) (by decide) (by decide) (by decide)]; norm_num
theorem f_half : Ideal.ofBits .f32 0x3F000000#32 = ((1 / 2 : ℝ) : EReal) := by rw [c32 _ 126 0 (by decide) (by decide) (by decide) (by decide) (by decide)]; norm_num
theorem f_34 : Ideal.ofBits .f32 0x3F400000#32 = ((3 / 4 : ℝ) : EReal) := by rw [c32 _ 126 4194304 (by decide) (by decide) (by decide) (by decide) (by decide)]; norm_num
theorem f_one : Ideal.ofBits .f32 0x3F800000#32 = ((1 : ℝ) : EReal) := by rw [c32 _ 127 0 (by decide) (by decide) (by decide) (by decide) (by decide)]; norm_num
theorem f_three : Ideal.ofBits .f32 0x40400000#32 = ((3 : ℝ) : EReal) := by rw [c32 _ 128 4194304 (by decide) (by decide) (by decide) (by decide) (by decide)]; norm_num
theorem f_tiny : Ideal.ofBits .f32 0x33800000#32 = ((1 / 16777216 : ℝ) : EReal) := by rw [c32 _ 103 0 (by decide) (by decide) (by decide) (by decide) (by decide)]; norm_num
theorem f_bot : Ideal.ofBits .f32 0xFF800000#32 = ⊥ := by
  show Ideal.ieee 8 23 0xFF800000#32 = _
  unfold Ideal.ieee
  rw [if_pos (by decide), if_pos (by decide), if_pos (by decide)]

/-! ## The values -/

theorem x_bits : ∀ x : Fin 256, x.val ≠ 127 → x.val ≠ 255 → ¬ (((BitVec.ofNat 8 x.val).extractLsb' 3 4).toNat = 15 ∧ ((BitVec.ofNat 8 x.val).extractLsb' 0 3).toNat = 7) := by
  decide +kernel

/-- What a value may be: zero, or of a magnitude whose exponent keeps the format's range. -/
def Good (r : ℝ) : Prop := r = 0 ∨ ((2 : ℝ) ^ (-125 : ℤ) ≤ |r| ∧ |r| < (2 : ℝ) ^ (128 : ℤ))

theorem code_real (x : BitVec 8) (h : x ≠ 127#8) (h' : x ≠ 255#8) : ∃ r : ℝ, Ideal.ofBits .fp8e4m3 x = (r : EReal) ∧ (r = 0 ∨ ((2 : ℝ) ^ (-9 : ℤ) ≤ |r| ∧ |r| < (2 : ℝ) ^ (9 : ℤ))) := by
  have hb := x_bits ⟨x.toNat, x.isLt⟩ (fun e => h (BitVec.eq_of_toNat_eq e)) (fun e => h' (BitVec.eq_of_toNat_eq e))
  simp only [BitVec.ofNat_toNat, BitVec.setWidth_eq] at hb
  show ∃ r : ℝ, Ideal.e4m3fn x = (r : EReal) ∧ _
  unfold Ideal.e4m3fn
  have l1 : (x.extractLsb' 3 4).toNat < 16 := (x.extractLsb' 3 4).isLt
  have l2 : (x.extractLsb' 0 3).toNat < 8 := (x.extractLsb' 0 3).isLt
  generalize (x.extractLsb' 3 4).toNat = ex at *
  generalize (x.extractLsb' 0 3).toNat = fr at *
  have hs : |(if (x.extractLsb' 7 1 == 1#1) = true then (-1 : ℝ) else 1)| = 1 := by split_ifs <;> simp
  simp only [if_neg hb]
  generalize (if (x.extractLsb' 7 1 == 1#1) = true then (-1 : ℝ) else 1) = sg at *
  by_cases h0 : ex = 0
  · rw [if_pos h0]
    refine ⟨_, rfl, ?_⟩
    rcases Nat.eq_zero_or_pos fr with hf | hf
    · left; simp [hf]
    · right
      rw [abs_mul, abs_mul, hs, one_mul, Nat.abs_cast, abs_of_pos (by positivity)]
      have f1 : (1 : ℝ) ≤ fr := by exact_mod_cast hf
      have f2 : (fr : ℝ) ≤ 7 := by exact_mod_cast (show fr ≤ 7 by omega)
      norm_num
      constructor <;> linarith
  · rw [if_neg h0]
    refine ⟨_, rfl, Or.inr ?_⟩
    rw [abs_mul, abs_mul, hs, one_mul, Nat.abs_cast, abs_of_pos (by positivity)]
    have f1 : (8 : ℝ) ≤ ((8 + fr : ℕ) : ℝ) := by exact_mod_cast (show 8 ≤ 8 + fr by omega)
    have f2 : ((8 + fr : ℕ) : ℝ) ≤ 15 := by exact_mod_cast (show 8 + fr ≤ 15 by omega)
    have g1 : (2 : ℝ) ^ (-9 : ℤ) ≤ (2 : ℝ) ^ ((ex : ℤ) - 10) := zpow_le_zpow_right₀ (by norm_num) (by omega)
    have g2 : (2 : ℝ) ^ ((ex : ℤ) - 10) ≤ (2 : ℝ) ^ (5 : ℤ) := zpow_le_zpow_right₀ (by norm_num) (by omega)
    have g0 : (0 : ℝ) < (2 : ℝ) ^ ((ex : ℤ) - 10) := by positivity
    constructor
    · nlinarith
    · have g3 : (2 : ℝ) ^ (5 : ℤ) = 32 := by norm_num
      have g4 : (2 : ℝ) ^ (9 : ℤ) = 512 := by norm_num
      rw [g3] at g2
      rw [g4]
      nlinarith

theorem sub127 : ∀ t : Fin 256, (BitVec.ofNat 32 t.val - 127#32).toInt = (t.val : ℤ) - 127 := by decide +kernel

theorem scale_real (s : BitVec 8) (h1 : 11 ≤ s.toNat) (h2 : s.toNat ≤ 246) :
    Ideal.ofBits .f32 (s.setWidth 32 <<< 23) = (((2 : ℝ) ^ ((s.toNat : ℤ) - 127) : ℝ) : EReal)
    ∧ (FloatOps.exp2 (FloatOps.sitofp .f32 (IntOp.subi (s.setWidth 32) 127#32)) : Ideal .f32) = (((2 : ℝ) ^ ((s.toNat : ℤ) - 127) : ℝ) : EReal) := by
  have e : s.setWidth 32 = BitVec.ofNat 32 s.toNat := by rw [BitVec.ofNat_toNat]
  rw [e]
  refine ⟨pw _ (by omega) (by omega), ?_⟩
  show Ideal.exp2 ((((BitVec.ofNat 32 s.toNat - 127#32).toInt : ℤ) : ℝ) : EReal) = _
  rw [sub127 ⟨s.toNat, by omega⟩]
  show ((Real.rpow 2 _ : ℝ) : EReal) = _
  congr 1
  exact Real.rpow_intCast 2 _

theorem val_eq (x s : BitVec 8) (h1 : 11 ≤ s.toNat) (h2 : s.toNat ≤ 246) : (rVal x s : EReal) = val Ideal x s := by
  obtain ⟨a, b⟩ := scale_real s h1 h2
  show Ideal.ofBits .fp8e4m3 x * _ = Ideal.ofBits .fp8e4m3 x * Ideal.ofBits .f32 (s.setWidth 32 <<< 23)
  rw [a]
  exact congrArg _ b

theorem val_good (x s : BitVec 8) (h : x ≠ 127#8) (h' : x ≠ 255#8) (h1 : 11 ≤ s.toNat) (h2 : s.toNat ≤ 246) :
    ∃ r : ℝ, val Ideal x s = (r : EReal) ∧ Good r := by
  obtain ⟨a, -⟩ := scale_real s h1 h2
  obtain ⟨q, hq, hg⟩ := code_real x h h'
  refine ⟨q * (2 : ℝ) ^ ((s.toNat : ℤ) - 127), ?_, ?_⟩
  · show Ideal.ofBits .fp8e4m3 x * Ideal.ofBits .f32 (s.setWidth 32 <<< 23) = _
    rw [a, hq, EReal.coe_mul]
  · rcases hg with h0 | ⟨l, u⟩
    · left; rw [h0, zero_mul]
    · right
      have g0 : (0 : ℝ) < (2 : ℝ) ^ ((s.toNat : ℤ) - 127) := by positivity
      have g1 : (2 : ℝ) ^ (-116 : ℤ) ≤ (2 : ℝ) ^ ((s.toNat : ℤ) - 127) := zpow_le_zpow_right₀ (by norm_num) (by omega)
      have g2 : (2 : ℝ) ^ ((s.toNat : ℤ) - 127) ≤ (2 : ℝ) ^ (119 : ℤ) := zpow_le_zpow_right₀ (by norm_num) (by omega)
      rw [abs_mul, abs_of_pos g0]
      constructor
      · rw [show (-125 : ℤ) = -9 + -116 by norm_num, zpow_add₀ (by norm_num)]
        exact mul_le_mul l g1 (by positivity) (abs_nonneg _)
      · rw [show (128 : ℤ) = 9 + 119 by norm_num, zpow_add₀ (by norm_num)]
        exact mul_lt_mul u g2 g0 (by positivity)

end Cert.KernelIdeal.Num

end
-- ==== Proof.Group.lean ====
/- One group of 32 values: its exponent, its scale byte, and the codes of its values, kernel against reference. -/
module

public import proofs.«01_k».proof.Proof.Num

@[expose] public section

set_option maxRecDepth 16384

noncomputable section

namespace Cert.KernelIdeal.Num

open Cert.KernelIdeal.Chunk
open Cert.ReferenceIdeal.Val (rExp rQ rIdx rFrac rU rNib rPack rScale rVal)
open Idealize.ShloMosaic

/-! ## The greatest magnitude -/

theorem colMax_real (V : Fin 32 → EReal) (r : Fin 32 → ℝ) (h : ∀ ρ, V ρ = (r ρ : EReal)) :
    ∃ m : ℝ, colMax V = (m : EReal) ∧ (∀ ρ, |r ρ| ≤ m) ∧ ∃ ρ, m = |r ρ| := by
  have e : colMax V = Finset.univ.sup fun ρ => ((|r ρ| : ℝ) : EReal) := by
    unfold colMax
    congr 1
    funext ρ
    rw [h ρ, coe_abs']
  obtain ⟨ρ, -, hρ⟩ := Finset.exists_mem_eq_sup (Finset.univ : Finset (Fin 32)) ⟨0, Finset.mem_univ _⟩ (fun ρ => ((|r ρ| : ℝ) : EReal))
  refine ⟨|r ρ|, e.trans hρ, fun σ => ?_, ρ, rfl⟩
  have := Finset.le_sup (f := fun ρ => ((|r ρ| : ℝ) : EReal)) (Finset.mem_univ σ)
  rw [hρ] at this
  exact_mod_cast this

theorem fold_colMax (V : Fin 32 → EReal) :
    (Finset.univ : Finset (Fin 32)).fold max (Ideal.ofBits .f32 0xFF800000#32) (fun k => (FloatOps.absf (F := Ideal) (φ := .f32) (V k) : EReal)) = colMax V := by
  rw [f_bot]
  apply eq_of_forall_ge_iff
  intro c
  rw [Finset.fold_max_le, colMax, Finset.sup_le_iff]
  exact ⟨fun H k hk => H.2 k hk, fun H => ⟨bot_le, fun k hk => H k hk⟩⟩

/-! ## The exponent -/

theorem ofNat_add32 (e b : Nat) : BitVec.ofNat 32 e + BitVec.ofNat 32 b = BitVec.ofNat 32 (e + b) := (BitVec.ofNat_add e b).symm

/-- The biased exponent of a magnitude. -/
theorem step_pos (m : ℝ) (hm : 0 < m) (E : Nat) (hL : (2 : ℝ) ^ ((E : ℤ) - 127) ≤ m) (hU : m < (2 : ℝ) ^ ((E : ℤ) - 126)) (hE' : E ≤ 254) (e b : Nat) (hb : 1 ≤ b) (h : e + b ≤ 255) :
    stepS (BitVec.ofNat 32 b) (m : EReal) (BitVec.ofNat 32 e) = BitVec.ofNat 32 (if e + b ≤ E then e + b else e) := by
  unfold stepS Scalar.select Ideal.cmp
  rw [ofNat_add32]
  rcases Nat.lt_or_ge (e + b) 255 with h' | h'
  · rw [pw _ (by omega) (by omega)]
    have key : (((2 : ℝ) ^ (((e + b : ℕ) : ℤ) - 127) : ℝ) : EReal) ≤ (m : EReal) ↔ e + b ≤ E := by
      rw [EReal.coe_le_coe_iff]
      constructor
      · intro H
        by_contra hc
        have := (zpow_le_zpow_right₀ (by norm_num : (1 : ℝ) ≤ 2) (show (E : ℤ) - 126 ≤ ((e + b : ℕ) : ℤ) - 127 by omega))
        linarith
      · intro H
        exact (zpow_le_zpow_right₀ (by norm_num : (1 : ℝ) ≤ 2) (show ((e + b : ℕ) : ℤ) - 127 ≤ (E : ℤ) - 127 by omega)).trans hL
    by_cases hc : e + b ≤ E
    · rw [if_pos hc]
      simp only [decide_eq_true (key.mpr hc)]
      rfl
    · rw [if_neg hc]
      simp only [decide_eq_false (fun x => hc (key.mp x))]
      rfl
  · rw [show e + b = 255 by omega, pw_top, if_neg (show ¬ 255 ≤ E by omega)]
    have hn : ¬ (⊤ : EReal) ≤ (m : EReal) := fun x => (EReal.coe_lt_top m).not_ge x
    simp only [decide_eq_false hn]
    rfl

theorem expo_pos (m : ℝ) (hm : 0 < m) (E : Nat) (hL : (2 : ℝ) ^ ((E : ℤ) - 127) ≤ m) (hU : m < (2 : ℝ) ^ ((E : ℤ) - 126)) (hE' : E ≤ 254) : expoS (m : EReal) = BitVec.ofNat 32 E := by
  have st : ∀ e b, 1 ≤ b → e + b ≤ 255 → ∀ e', (if e + b ≤ E then e + b else e) = e' → stepS (BitVec.ofNat 32 b) (m : EReal) (BitVec.ofNat 32 e) = BitVec.ofNat 32 e' :=
    fun e b hb h e' he => (step_pos m hm E hL hU hE' e b hb h).trans (congrArg _ he)
  unfold expoS
  rw [st 0 128 (by omega) (by omega) (E / 128 * 128) (by split_ifs <;> omega),
    st (E / 128 * 128) 64 (by omega) (by omega) (E / 64 * 64) (by split_ifs <;> omega),
    st (E / 64 * 64) 32 (by omega) (by omega) (E / 32 * 32) (by split_ifs <;> omega),
    st (E / 32 * 32) 16 (by omega) (by omega) (E / 16 * 16) (by split_ifs <;> omega),
    st (E / 16 * 16) 8 (by omega) (by omega) (E / 8 * 8) (by split_ifs <;> omega),
    st (E / 8 * 8) 4 (by omega) (by omega) (E / 4 * 4) (by split_ifs <;> omega),
    st (E / 4 * 4) 2 (by omega) (by omega) (E / 2 * 2) (by split_ifs <;> omega),
    st (E / 2 * 2) 1 (by omega) (by omega) E (by split_ifs <;> omega)]

theorem step_zero (b : Nat) (h1 : 1 ≤ b) (h2 : b ≤ 254) : stepS (BitVec.ofNat 32 b) ((0 : ℝ) : EReal) 0#32 = 0#32 := by
  unfold stepS Scalar.select Ideal.cmp
  rw [BitVec.zero_add, pw _ h1 h2]
  have hn : ¬ (((2 : ℝ) ^ ((b : ℤ) - 127) : ℝ) : EReal) ≤ ((0 : ℝ) : EReal) := by
    rw [EReal.coe_le_coe_iff, not_le]; positivity
  simp only [decide_eq_false hn]
  rfl

theorem expo_zero : expoS ((0 : ℝ) : EReal) = 0#32 := by
  unfold expoS
  rw [step_zero 128 (by decide) (by decide), step_zero 64 (by decide) (by decide), step_zero 32 (by decide) (by decide), step_zero 16 (by decide) (by decide),
    step_zero 8 (by decide) (by decide), step_zero 4 (by decide) (by decide), step_zero 2 (by decide) (by decide), step_zero 1 (by decide) (by decide)]

theorem ln2_named : (Named.named Cert.ReferenceIdeal.κ "ln2" 0x3F317218#32 : Ideal .f32) = ((Real.log 2 : ℝ) : EReal) := by
  show (Cert.ReferenceIdeal.κ "ln2").getD _ = _
  simp [Cert.ReferenceIdeal.κ]

theorem rexp_zero : (rExp ((0 : ℝ) : EReal) : EReal) = ((0 : ℝ) : EReal) := by
  unfold rExp Scalar.select
  show (if Ideal.cmp .oeq ((0 : ℝ) : EReal) (Ideal.ofBits .f32 0x00000000#32) = 1#1 then (Ideal.ofBits .f32 0x00000000#32 : EReal) else _) = _
  rw [f_zero, if_pos]
  simp [Ideal.cmp]

theorem rexp_pos (m : ℝ) (hm : 0 < m) (E : Nat) (hL : (2 : ℝ) ^ ((E : ℤ) - 127) ≤ m) (hU : m < (2 : ℝ) ^ ((E : ℤ) - 126)) : (rExp (m : EReal) : EReal) = (((((E : ℤ) - 129 : ℤ) : ℝ)) : EReal) := by
  unfold rExp Scalar.select
  rw [ln2_named]
  show (if Ideal.cmp .oeq (m : EReal) (Ideal.ofBits .f32 0x00000000#32) = 1#1 then (Ideal.ofBits .f32 0x00000000#32 : EReal)
    else Ideal.liftRound Int.floor (Ideal.div (Ideal.log (m : EReal)) ((Real.log 2 : ℝ) : EReal)) + Ideal.ofBits .f32 0x3F800000#32 - Ideal.ofBits .f32 0x40400000#32) = _
  have l2 : (0 : ℝ) < Real.log 2 := Real.log_pos (by norm_num)
  rw [f_zero, f_one, f_three, if_neg]
  · have el : Ideal.log (m : EReal) = ((Real.log m : ℝ) : EReal) := by
      show (if m ≤ 0 then ⊥ else (Real.log m : EReal)) = _
      rw [if_neg (not_le.mpr hm)]
    have ed : Ideal.div ((Real.log m : ℝ) : EReal) ((Real.log 2 : ℝ) : EReal) = ((Real.log m / Real.log 2 : ℝ) : EReal) := by
      unfold Ideal.div
      rw [if_neg (by exact_mod_cast l2.ne'), ← EReal.coe_inv, ← EReal.coe_mul, div_eq_mul_inv]
    have ef : ⌊Real.log m / Real.log 2⌋ = (E : ℤ) - 127 := by
      rw [Int.floor_eq_iff, le_div_iff₀ l2, div_lt_iff₀ l2]
      constructor
      · rw [← Real.log_zpow]; exact Real.log_le_log (by positivity) hL
      · rw [show (((E : ℤ) - 127 : ℤ) : ℝ) + 1 = ((((E : ℤ) - 126 : ℤ)) : ℝ) by push_cast; ring, ← Real.log_zpow]
        exact Real.log_lt_log hm hU
    rw [el, ed]
    show ((((⌊Real.log m / Real.log 2⌋ : ℤ) : ℝ)) : EReal) + ((1 : ℝ) : EReal) - ((3 : ℝ) : EReal) = _
    rw [ef, ← EReal.coe_add, ← EReal.coe_sub]
    refine congrArg Real.toEReal ?_
    push_cast
    ring
  · have : ¬ (m : EReal) = ((0 : ℝ) : EReal) := by exact_mod_cast hm.ne'
    simp only [Ideal.cmp, decide_eq_false this]
    decide

/-! ## The codes -/

theorem ofBool_one (p : Prop) [Decidable p] : (BitVec.ofBool (decide p) = 1#1) ↔ p := by by_cases h : p <;> simp [h]
theorem ofBool_one' (p : Prop) [Decidable p] : (BitVec.ofBool (decide p) = 1) ↔ p := ofBool_one p

/-- A magnitude on the axis of the codes: the code's index and the fraction towards the next. -/
theorem axis_eq (a : ℝ) (h0 : 0 ≤ a) (h6 : a < 6) : ∃ (n : ℕ) (f : ℝ), n ≤ 6
    ∧ axisS (F := Ideal) ((2 * a : ℝ) : EReal) = ((n + f : ℝ) : EReal) ∧ 0 ≤ f ∧ f < 1
    ∧ (rIdx (a : EReal) : EReal) = ((n : ℝ) : EReal) ∧ (rFrac (a : EReal) : EReal) = (f : EReal) := by
  have ea : axisS (F := Ideal) ((2 * a : ℝ) : EReal) = ((min (2 * a) (min (a + 2) (a / 2 + 4)) : ℝ) : EReal) := by
    show min ((2 * a : ℝ) : EReal) (min (((2 * a : ℝ) : EReal) * cstS Ideal 0x3F00#16 + cstS Ideal 0x4000#16) (((2 * a : ℝ) : EReal) * cstS Ideal 0x3E80#16 + cstS Ideal 0x4080#16)) = _
    rw [k_half, k_two, k_quarter, k_four, ← EReal.coe_mul, ← EReal.coe_mul, ← EReal.coe_add, ← EReal.coe_add, coe_min', coe_min',
      show 2 * a * (1 / 2) + 2 = a + 2 by ring, show 2 * a * (1 / 4) + 4 = a / 2 + 4 by ring]
  have ei : (rIdx (a : EReal) : EReal) = (((if a < 2 then (⌊a * 2⌋ : ℝ) else if a < 4 then 4 + (⌊a - 2⌋ : ℝ) else 6 : ℝ)) : EReal) := by
    unfold rIdx Scalar.select
    show (if Ideal.cmp .olt (a : EReal) (Ideal.ofBits .f32 0x40000000#32) = 1#1 then Ideal.liftRound Int.floor ((a : EReal) * Ideal.ofBits .f32 0x40000000#32)
      else (if Ideal.cmp .olt (a : EReal) (Ideal.ofBits .f32 0x40800000#32) = 1#1 then Ideal.ofBits .f32 0x40800000#32 + Ideal.liftRound Int.floor ((a : EReal) - Ideal.ofBits .f32 0x40000000#32) else Ideal.ofBits .f32 0x40C00000#32)) = _
    rw [f_two, f_four, f_six, ← EReal.coe_mul, ← EReal.coe_sub]
    simp only [Ideal.cmp, EReal.coe_lt_coe_iff, ofBool_one, ofBool_one']
    split_ifs
    · rfl
    · show ((4 : ℝ) : EReal) + (((⌊a - 2⌋ : ℤ) : ℝ) : EReal) = _
      rw [← EReal.coe_add]
    · rfl
  have ef : (rFrac (a : EReal) : EReal) = (((if a < 2 then a * 2 - (⌊a * 2⌋ : ℝ) else if a < 4 then a - 2 - (⌊a - 2⌋ : ℝ) else (a - 4) * (1 / 2) : ℝ)) : EReal) := by
    unfold rFrac Scalar.select
    show (if Ideal.cmp .olt (a : EReal) (Ideal.ofBits .f32 0x40000000#32) = 1#1 then (a : EReal) * Ideal.ofBits .f32 0x40000000#32 - Ideal.liftRound Int.floor ((a : EReal) * Ideal.ofBits .f32 0x40000000#32)
      else (if Ideal.cmp .olt (a : EReal) (Ideal.ofBits .f32 0x40800000#32) = 1#1 then (a : EReal) - Ideal.ofBits .f32 0x40000000#32 - Ideal.liftRound Int.floor ((a : EReal) - Ideal.ofBits .f32 0x40000000#32)
        else ((a : EReal) - Ideal.ofBits .f32 0x40800000#32) * Ideal.ofBits .f32 0x3F000000#32)) = _
    rw [f_two, f_four, f_half, ← EReal.coe_mul, ← EReal.coe_sub, ← EReal.coe_sub, ← EReal.coe_mul]
    simp only [Ideal.cmp, EReal.coe_lt_coe_iff, ofBool_one, ofBool_one']
    split_ifs
    · show ((a * 2 : ℝ) : EReal) - (((⌊a * 2⌋ : ℤ) : ℝ) : EReal) = _
      rw [← EReal.coe_sub]
    · show ((a - 2 : ℝ) : EReal) - (((⌊a - 2⌋ : ℤ) : ℝ) : EReal) = _
      rw [← EReal.coe_sub]
    · rfl
  rw [ea, ei, ef]
  by_cases h2 : a < 2
  · have hm : min (2 * a) (min (a + 2) (a / 2 + 4)) = a * 2 := by
      rw [min_eq_left]
      · ring
      · rw [le_min_iff]; constructor <;> linarith
    have hf : 0 ≤ ⌊a * 2⌋ := Int.floor_nonneg.mpr (by linarith)
    have hf' : ⌊a * 2⌋ < 4 := Int.floor_lt.mpr (by push_cast; linarith)
    have hc : ((⌊a * 2⌋.toNat : ℕ) : ℝ) = ((⌊a * 2⌋ : ℤ) : ℝ) := by
      rw [← Int.cast_natCast, Int.toNat_of_nonneg hf]
    refine ⟨⌊a * 2⌋.toNat, a * 2 - ⌊a * 2⌋, by omega, ?_, ?_, ?_, ?_, ?_⟩
    · rw [hm, hc]; congr 1; ring
    · exact sub_nonneg.mpr (Int.floor_le _)
    · have := Int.lt_floor_add_one (a * 2); linarith
    · rw [if_pos h2, hc]
    · rw [if_pos h2]
  · by_cases h4 : a < 4
    · have hm : min (2 * a) (min (a + 2) (a / 2 + 4)) = a + 2 := by
        rw [min_eq_left (show a + 2 ≤ a / 2 + 4 by linarith), min_eq_right (by linarith)]
      have hf : 0 ≤ ⌊a - 2⌋ := Int.floor_nonneg.mpr (by linarith)
      have hf' : ⌊a - 2⌋ < 2 := Int.floor_lt.mpr (by push_cast; linarith)
      have hc : ((⌊a - 2⌋.toNat : ℕ) : ℝ) = ((⌊a - 2⌋ : ℤ) : ℝ) := by
        rw [← Int.cast_natCast, Int.toNat_of_nonneg hf]
      refine ⟨4 + ⌊a - 2⌋.toNat, a - 2 - ⌊a - 2⌋, by omega, ?_, ?_, ?_, ?_, ?_⟩
      · rw [hm]; refine congrArg Real.toEReal ?_; push_cast; rw [hc]; ring
      · exact sub_nonneg.mpr (Int.floor_le _)
      · have := Int.lt_floor_add_one (a - 2); linarith
      · rw [if_neg h2, if_pos h4]; refine congrArg Real.toEReal ?_; push_cast; rw [hc]
      · rw [if_neg h2, if_pos h4]
    · have hm : min (2 * a) (min (a + 2) (a / 2 + 4)) = a / 2 + 4 := by
        rw [min_eq_right (show a / 2 + 4 ≤ a + 2 by linarith), min_eq_right (by linarith)]
      refine ⟨6, (a - 4) * (1 / 2), le_refl _, ?_, ?_, ?_, ?_, ?_⟩
      · rw [hm]; refine congrArg Real.toEReal ?_; push_cast; ring
      · linarith
      · linarith
      · rw [if_neg h2, if_neg h4]; norm_num
      · rw [if_neg h2, if_neg h4]

theorem floor_nf (n : ℕ) (f : ℝ) (h0 : 0 ≤ f) (h1 : f < 1) : ⌊(n : ℝ) + f⌋ = (n : ℤ) := by
  rw [Int.floor_eq_iff]; constructor <;> push_cast <;> linarith

/-- The threshold of a magnitude, and its half word. -/
theorem thr_eq (n : ℕ) (f : ℝ) (h0 : 0 ≤ f) (h1 : f < 1) : thrS (F := Ideal) ((n + f : ℝ) : EReal) = ((f * 16777216 : ℝ) : EReal) := by
  show (((n + f : ℝ) : EReal) - (((⌊(n : ℝ) + f⌋ : ℤ) : ℝ) : EReal)) * cstS Ideal 0x4B80#16 = _
  rw [floor_nf n f h0 h1, k_big, ← EReal.coe_sub, ← EReal.coe_mul]
  refine congrArg Real.toEReal ?_
  push_cast
  ring

theorem fptosi_nat (w k : ℕ) (h : k < 2 ^ (w - 1)) : Ideal.fptosi w ((k : ℝ) : EReal) = BitVec.ofNat w k := by
  show BitVec.ofInt w (max (-(2 ^ (w - 1) : ℕ)) (min ((2 ^ (w - 1) : ℕ) - 1) (if 0 ≤ (k : ℝ) then ⌊(k : ℝ)⌋ else ⌈(k : ℝ)⌉))) = _
  rw [if_pos (by positivity), Int.floor_natCast, min_eq_right (by omega), max_eq_right (by omega), BitVec.ofInt_natCast]

theorem fptoui_nat (w k : ℕ) (h : k < 2 ^ w) : Ideal.fptoui w ((k : ℝ) : EReal) = BitVec.ofNat w k := by
  show BitVec.ofInt w (max 0 (min ((2 ^ w : ℕ) - 1) (if 0 ≤ (k : ℝ) then ⌊(k : ℝ)⌋ else ⌈(k : ℝ)⌉))) = _
  rw [if_pos (by positivity), Int.floor_natCast, min_eq_right (by omega), max_eq_right (by omega), BitVec.ofInt_natCast]

theorem nib_eq (r : ℝ) (n : ℕ) (hn : n ≤ 6) (f : ℝ) (h0 : 0 ≤ f) (h1 : f < 1) :
    nibS (F := Ideal) (r : EReal) ((n + f : ℝ) : EReal) = BitVec.ofNat 16 (n + (if r < 0 then 8 else 0)) + 17152#16 := by
  show Ideal.fptosi 16 ((((⌊(n : ℝ) + f⌋ : ℤ) : ℝ) : EReal) + (Scalar.select (Ideal.cmp .olt (r : EReal) (cstS Ideal 0x0000#16)) (cstS Ideal 0x4308#16) (cstS Ideal 0x4300#16) : EReal)) + 17024#16 = _
  rw [floor_nf n f h0 h1, k_zero, k_136, k_128]
  unfold Scalar.select
  simp only [Ideal.cmp, EReal.coe_lt_coe_iff, ofBool_one, ofBool_one']
  split_ifs
  · rw [← EReal.coe_add, show ((n : ℤ) : ℝ) + 136 = ((n + 136 : ℕ) : ℝ) by push_cast; ring, fptosi_nat _ _ (by norm_num; omega)]
    interval_cases n <;> rfl
  · rw [← EReal.coe_add, show ((n : ℤ) : ℝ) + 128 = ((n + 128 : ℕ) : ℝ) by push_cast; ring, fptosi_nat _ _ (by norm_num; omega)]
    interval_cases n <;> rfl

/-- Whether a random word rounds a fraction up. -/
def up (f : ℝ) (r : BitVec 32) : Bool := decide ((((r >>> 8).toNat : ℕ) : ℝ) < f * 16777216)

theorem up_kernel (b r n : BitVec 32) (f : ℝ) : upS (F := Ideal) b r ((f * 16777216 : ℝ) : EReal) n = if up f r then n + b else n := by
  show Scalar.select (Ideal.cmp .olt ((((r >>> 8).toInt : ℤ) : ℝ) : EReal) ((f * 16777216 : ℝ) : EReal)) (n + b) n = _
  have e : (r >>> 8).toInt = (((r >>> 8).toNat : ℕ) : ℤ) := by
    apply BitVec.toInt_eq_toNat_of_lt
    rw [BitVec.toNat_ushiftRight, Nat.shiftRight_eq_div_pow]
    have := r.isLt
    omega
  rw [e]
  unfold Scalar.select up
  simp only [Ideal.cmp, EReal.coe_lt_coe_iff, ofBool_one, ofBool_one', Int.cast_natCast, decide_eq_true_eq]

theorem up_ref (r : BitVec 32) (f : ℝ) : (FloatOps.cmpf .olt (rU r) ((f : ℝ) : EReal) : BitVec 1) = BitVec.ofBool (up f r) := by
  show Ideal.cmp .olt (((((IntOp.shrui .vector r 8#32).toNat : ℕ) : ℝ) : EReal) * Ideal.ofBits .f32 0x33800000#32) (f : EReal) = _
  rw [shr8, f_tiny, ← EReal.coe_mul]
  unfold Ideal.cmp up
  congr 1
  simp only [EReal.coe_lt_coe_iff]
  congr 1
  apply propext
  constructor <;> intro h <;> linarith

/-- The codes of a value, kernel and reference. -/
def Code (v : EReal) (eb : BitVec 32) (e : EReal) : Prop := ∃ (n : ℕ) (s : Bool) (f : ℝ), n ≤ 6
  ∧ (∀ h, h < 2 → thrS (F := Ideal) (magS v eb h) = ((f * 16777216 : ℝ) : EReal) ∧ nibS (F := Ideal) v (magS v eb h) = BitVec.ofNat 16 (n + (if s then 8 else 0)) + 17152#16)
  ∧ ∀ r, rNib v e r = (BitVec.ofNat 8 n + (BitVec.ofBool (up f r)).setWidth 8) ||| (if s then 8#8 else 0#8)

theorem code_of (r a : ℝ) (eb : BitVec 32) (e : EReal) (h0 : 0 ≤ a) (h6 : a < 6)
    (hk : ∀ h, h < 2 → ((|r| : ℝ) : EReal) * gainS Ideal eb h = ((2 * a : ℝ) : EReal)) (hr : (rQ (r : EReal) e : EReal) = (a : EReal)) : Code (r : EReal) eb e := by
  obtain ⟨n, f, hn, ha, f0, f1, hi, hf⟩ := axis_eq a h0 h6
  have hm : ∀ h, h < 2 → magS (F := Ideal) (r : EReal) eb h = ((n + f : ℝ) : EReal) := fun h hh => by
    show axisS (F := Ideal) (max (r : EReal) (-(r : EReal)) * gainS Ideal eb h) = _
    rw [coe_abs', hk h hh, ha]
  refine ⟨n, decide (r < 0), f, hn, fun h hh => ?_, fun w => ?_⟩
  · rw [hm h hh, thr_eq n f f0 f1, nib_eq r n hn f f0 f1]
    refine ⟨rfl, ?_⟩
    simp only [decide_eq_true_eq]
  · unfold rNib
    rw [hr, hi, hf, up_ref]
    show (Ideal.fptoui 8 ((n : ℝ) : EReal) + _) ||| Scalar.select (Ideal.cmp .olt (r : EReal) (Ideal.ofBits .f32 0x00000000#32)) 8#8 0#8 = _
    rw [fptoui_nat _ _ (by norm_num; omega), f_zero]
    unfold Scalar.select
    simp only [Ideal.cmp, EReal.coe_lt_coe_iff, ofBool_one, ofBool_one', decide_eq_true_eq]

theorem bytes_finite : ∀ (n0 n1 : Fin 7) (s0 s1 u0 u1 : Bool),
    (if u1 then (if u0 then sideS ((BitVec.ofNat 16 (n1.val + (if s1 then 8 else 0)) + 17152#16) ++ (BitVec.ofNat 16 (n0.val + (if s0 then 8 else 0)) + 17152#16)) + 1#32
        else sideS ((BitVec.ofNat 16 (n1.val + (if s1 then 8 else 0)) + 17152#16) ++ (BitVec.ofNat 16 (n0.val + (if s0 then 8 else 0)) + 17152#16))) + 16#32
      else (if u0 then sideS ((BitVec.ofNat 16 (n1.val + (if s1 then 8 else 0)) + 17152#16) ++ (BitVec.ofNat 16 (n0.val + (if s0 then 8 else 0)) + 17152#16)) + 1#32
        else sideS ((BitVec.ofNat 16 (n1.val + (if s1 then 8 else 0)) + 17152#16) ++ (BitVec.ofNat 16 (n0.val + (if s0 then 8 else 0)) + 17152#16)))).setWidth 8
    = rPack ((BitVec.ofNat 8 n0.val + (BitVec.ofBool u0).setWidth 8) ||| (if s0 then 8#8 else 0#8)) ((BitVec.ofNat 8 n1.val + (BitVec.ofBool u1).setWidth 8) ||| (if s1 then 8#8 else 0#8)) := by
  decide +kernel

/-- The byte of two values of a group. -/
theorem byte_eq (v0 v1 : EReal) (eb : BitVec 32) (e : EReal) (r0 r1 : BitVec 32) (H0 : Code v0 eb e) (H1 : Code v1 eb e) :
    (byteS (F := Ideal) v0 v1 eb r0 r1).setWidth 8 = rPack (rNib v0 e r0) (rNib v1 e r1) := by
  obtain ⟨n0, s0, f0, hn0, hk0, hr0⟩ := H0
  obtain ⟨n1, s1, f1, hn1, hk1, hr1⟩ := H1
  unfold byteS
  rw [hr0, hr1, (hk0 0 (by decide)).1, (hk0 0 (by decide)).2, (hk1 1 (by decide)).1, (hk1 1 (by decide)).2, up_kernel, up_kernel]
  exact bytes_finite ⟨n0, by omega⟩ ⟨n1, by omega⟩ s0 s1 (up f0 r0) (up f1 r1)

theorem rq_eq (r : ℝ) (z : ℤ) : (rQ (r : EReal) (((z : ℤ) : ℝ) : EReal) : EReal) = ((|r| * (3 / 4) * (2 : ℝ) ^ (-z) : ℝ) : EReal) := by
  show max (r : EReal) (-(r : EReal)) * Ideal.ofBits .f32 0x3F400000#32 * Ideal.exp2 (Ideal.ofBits .f32 0x00000000#32 - (((z : ℤ) : ℝ) : EReal)) = _
  rw [coe_abs', f_34, f_zero, ← EReal.coe_sub, ← EReal.coe_mul]
  show _ * ((Real.rpow 2 _ : ℝ) : EReal) = _
  rw [← EReal.coe_mul, show (0 : ℝ) - ((z : ℤ) : ℝ) = ((-z : ℤ) : ℝ) by push_cast; ring]
  congr 2
  exact Real.rpow_intCast 2 _

theorem scale_bytes : ∀ E : Fin 255, 2 ≤ E.val → (scaleByte (BitVec.ofNat 32 E.val)).setWidth 8 = (BitVec.ofInt 32 ((E.val : ℤ) - 129) + 127#32).setWidth 8 := by
  decide +kernel

theorem fptosi_int (z : ℤ) (h : -200 ≤ z) (h' : z ≤ 200) : Ideal.fptosi 32 (((z : ℤ) : ℝ) : EReal) = BitVec.ofInt 32 z := by
  show BitVec.ofInt 32 (max (-(2 ^ (32 - 1) : ℕ)) (min ((2 ^ (32 - 1) : ℕ) - 1) (if 0 ≤ (z : ℝ) then ⌊(z : ℝ)⌋ else ⌈(z : ℝ)⌉))) = _
  rw [Int.floor_intCast, Int.ceil_intCast, ite_self]
  congr 1
  norm_num
  omega

/-- One group: the scale byte, and the code of every value. -/
theorem group_eq (V : Fin 32 → EReal) (hV : ∀ ρ, ∃ r : ℝ, V ρ = (r : EReal) ∧ Good r) :
    (scaleByte (expoS (colMax V))).setWidth 8 = rScale (rExp (colMax V)) ∧ ∀ ρ, Code (V ρ) (expoS (colMax V)) (rExp (colMax V)) := by
  choose r hr hg using hV
  obtain ⟨m, hm, hle, ρ0, hρ0⟩ := colMax_real V r hr
  rw [hm]
  rcases (abs_nonneg (r ρ0)).eq_or_lt with h0 | h0
  · have m0 : m = 0 := hρ0.trans h0.symm
    have r0 : ∀ ρ, r ρ = 0 := fun ρ => abs_eq_zero.mp (le_antisymm ((hle ρ).trans m0.le) (abs_nonneg _))
    rw [m0, expo_zero, rexp_zero]
    refine ⟨?_, fun ρ => ?_⟩
    · show _ = (Ideal.fptosi 32 ((0 : ℝ) : EReal) + 127#32).setWidth 8
      rw [show ((0 : ℝ) : EReal) = (((0 : ℤ) : ℝ) : EReal) by norm_num, fptosi_int 0 (by norm_num) (by norm_num)]
      decide
    · rw [hr ρ, r0 ρ]
      refine code_of 0 0 _ _ le_rfl (by norm_num) (fun h hh => ?_) ?_
      · obtain ⟨g, hg⟩ := gain_zero h hh
        rw [hg, ← EReal.coe_mul]
        congr 1
        simp
      · have := rq_eq 0 0
        rw [show (((0 : ℤ) : ℝ) : EReal) = ((0 : ℝ) : EReal) by norm_num] at this
        rw [this]
        congr 1
        simp
  · have mp : 0 < m := hρ0 ▸ h0
    have gm : (2 : ℝ) ^ (-125 : ℤ) ≤ m ∧ m < (2 : ℝ) ^ (128 : ℤ) := by
      rcases hg ρ0 with h | h
      · rw [h, abs_zero] at h0; exact absurd h0 (lt_irrefl _)
      · rw [hρ0]; exact h
    obtain ⟨k, hk1, hk2⟩ := exists_mem_Ico_zpow mp (show (1 : ℝ) < 2 by norm_num)
    have k1 : -125 ≤ k := by
      by_contra hc
      have := zpow_le_zpow_right₀ (show (1 : ℝ) ≤ 2 by norm_num) (show k + 1 ≤ -125 by omega)
      linarith [gm.1]
    have k2 : k ≤ 127 := by
      by_contra hc
      have := zpow_le_zpow_right₀ (show (1 : ℝ) ≤ 2 by norm_num) (show 128 ≤ k by omega)
      linarith [gm.2]
    obtain ⟨E, hE⟩ : ∃ E : ℕ, (E : ℤ) = k + 127 := ⟨(k + 127).toNat, by omega⟩
    have e2 : 2 ≤ E := by omega
    have e254 : E ≤ 254 := by omega
    rw [show k = (E : ℤ) - 127 by omega] at hk1 hk2
    rw [show (E : ℤ) - 127 + 1 = (E : ℤ) - 126 by ring] at hk2
    rw [expo_pos m mp E hk1 hk2 e254, rexp_pos m mp E hk1 hk2]
    refine ⟨?_, fun ρ => ?_⟩
    · rw [scale_bytes ⟨E, by omega⟩ e2]
      show _ = (Ideal.fptosi 32 ((((E : ℤ) - 129 : ℤ) : ℝ) : EReal) + 127#32).setWidth 8
      rw [fptosi_int _ (by omega) (by omega)]
    · rw [hr ρ]
      have hz : (0 : ℝ) < (2 : ℝ) ^ (129 - (E : ℤ)) := by positivity
      refine code_of (r ρ) (|r ρ| * (3 / 4) * (2 : ℝ) ^ (129 - (E : ℤ))) _ _ (by positivity) ?_ (fun h hh => ?_) ?_
      · have h1 : |r ρ| < (2 : ℝ) ^ ((E : ℤ) - 126) := (hle ρ).trans_lt hk2
        have h2 : (2 : ℝ) ^ ((E : ℤ) - 126) * (2 : ℝ) ^ (129 - (E : ℤ)) = 8 := by
          rw [← zpow_add₀ (by norm_num), show (E : ℤ) - 126 + (129 - (E : ℤ)) = 3 by ring]; norm_num
        nlinarith [mul_lt_mul_of_pos_right h1 hz]
      · rw [gain_eq E h e2 e254 hh, ← EReal.coe_mul]
        congr 1
        ring
      · rw [rq_eq, show -((E : ℤ) - 129) = 129 - (E : ℤ) by ring]

end Cert.KernelIdeal.Num

end
-- ==== Proof.Bridge.lean ====
/- The kernel's two results are the reference's, for codes that are numbers and scales in the range. -/
module

public import proofs.«01_k».proof.Proof.RefArr
public import proofs.«01_k».proof.Proof.Group
public import proofs.«01_k».proof.Proof.KernelVal

@[expose] public section

set_option maxRecDepth 16384

noncomputable section

namespace Cert.Bridge

open Cert.KernelIdeal (S2x384x36864 S2x384x1152 S2x192x36864 S2x12x36864 S2)
open Cert.KernelIdeal.Chunk Cert.KernelIdeal.Num
open Cert.KernelIdeal.Val (gcode gscale gval G5 G6)
open Cert.ReferenceIdeal.Val (rExp rQ rIdx rFrac rU rNib rPack rScale rVal rval rword rcodes rscales rval_apply pay88_apply rscales_eq rcodes_apply rword_apply)
open Idealize.ShloMosaic Idealize.ShloMosaic.ValueIdx

variable (x : S2x384x36864.Idx → BitVec 8) (s : S2x384x1152.Idx → BitVec 8) (u : S2.Idx → BitVec 32)

/-- A value inside the array. -/
theorem gval_in (b : Fin 2) (r : Fin 384) (c : Fin 36864) :
    gval x s b.val r.val c.val = val Ideal (x (ValueIdx.ix3 b r c)) (s (ValueIdx.ix3 b r ⟨c.val / 32, by omega⟩)) := by
  unfold gval vN gcode gscale
  rw [dif_pos ⟨b.isLt, r.isLt, c.isLt⟩, dif_pos ⟨b.isLt, r.isLt, by omega⟩]

variable (hx : ∀ i, x i ≠ 127#8 ∧ x i ≠ 255#8) (hs : ∀ i, 11 ≤ (s i).toNat ∧ (s i).toNat ≤ 246)
include hs

/-- The reference's value is the kernel's. -/
theorem rval_gval (b : Fin 2) (r : Fin 384) (c : Fin 36864) :
    (rval x s (Idealize.ShloMosaic.ix3 b r c) : EReal) = gval x s b.val r.val c.val := by
  rw [gval_in, rval_apply]
  exact val_eq _ _ (hs _).1 (hs _).2

/-- The reference's exponent of a group is that of the group's greatest magnitude. -/
theorem exp_eq (b : Fin 2) (g : Fin 12) (c : Fin 36864) :
    Cert.ReferenceIdeal.Gen.k0_pay88 (F := Ideal) (rval x s) (Idealize.ShloMosaic.ix3 b g c) = rExp (colMax fun i : Fin 32 => gval x s b.val (32 * g.val + i.val) c.val) := by
  rw [pay88_apply]
  refine congrArg rExp ?_
  rw [← fold_colMax]
  congr 1
  funext k
  have h := rval_gval x s hs b ⟨g.val * 32 + k.val, by omega⟩ c
  have e : g.val * 32 + k.val = 32 * g.val + k.val := by omega
  have h := h.trans (congrArg (fun n => gval x s b.val n c.val) e)
  exact congrArg (FloatOps.absf (F := Ideal) (φ := .f32)) h

include hx

/-- The values of a group are good. -/
theorem good (b : Fin 2) (g : Fin 12) (c : Fin 36864) (ρ : Fin 32) : ∃ r : ℝ, gval x s b.val (32 * g.val + ρ.val) c.val = (r : EReal) ∧ Good r := by
  have h := gval_in x s b ⟨32 * g.val + ρ.val, by omega⟩ c
  rw [h]
  exact val_good _ _ (hx _).1 (hx _).2 (hs _).1 (hs _).2

/-- The scale bytes. -/
theorem scales_eq : G6 x s = rscales (rval x s) := by
  funext y
  obtain ⟨b, g, c, rfl⟩ : ∃ b g c, y = Idealize.ShloMosaic.ix3 b g c := ⟨y 0, y 1, y 2, by funext d; fin_cases d <;> rfl⟩
  rw [rscales_eq, exp_eq x s hs]
  exact (group_eq _ (good x s hx hs b g c)).1

/-- The packed codes. -/
theorem codes_eq : G5 x s u = rcodes (rval x s) (rword (u (Idealize.ShloMosaic.ix1 0)) (u (Idealize.ShloMosaic.ix1 1))) := by
  funext y
  obtain ⟨b, p, c, rfl⟩ : ∃ b p c, y = Idealize.ShloMosaic.ix3 b p c := ⟨y 0, y 1, y 2, by funext d; fin_cases d <;> rfl⟩
  have hp := p.isLt
  have H := (group_eq _ (good x s hx hs b ⟨p.val / 16, by omega⟩ c)).2
  rw [rcodes_apply, exp_eq x s hs, rword_apply, rword_apply]
  have h0 := rval_gval x s hs b ⟨p.val / 16 * 32 + p.val % 16 * 2, by omega⟩ c
  have h1 := rval_gval x s hs b ⟨p.val / 16 * 32 + (p.val % 16 * 2 + 1), by omega⟩ c
  rw [h0, h1]
  have H0 := H ⟨p.val % 16 * 2, by omega⟩
  have H1 := H ⟨p.val % 16 * 2 + 1, by omega⟩
  rw [← byte_eq _ _ _ _ _ _
    (by simpa only [show 32 * (p.val / 16) + p.val % 16 * 2 = p.val / 16 * 32 + p.val % 16 * 2 by omega] using H0)
    (by simpa only [show 32 * (p.val / 16) + (p.val % 16 * 2 + 1) = p.val / 16 * 32 + (p.val % 16 * 2 + 1) by omega] using H1)]
  show codeN (gval x s b.val) (Cert.KernelIdeal.Val.grnd (Cert.KernelIdeal.Val.keysOf u) b.val) p.val c.val = _
  unfold codeN ebN
  dsimp only
  rw [show p.val / 16 * 32 + p.val % 16 * 2 = 2 * p.val by omega, show p.val / 16 * 32 + (p.val % 16 * 2 + 1) = 2 * p.val + 1 by omega]
  rfl

end Cert.Bridge
-- ==== Proof.lean ====
module

public import proofs.«01_k».proof.Defs
public import proofs.«01_k».proof.Proof.RunKernel
public import proofs.«01_k».proof.Proof.RunKernelIdeal
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.PreFacts
public import proofs.«01_k».proof.Proof.Bridge
public import Idealize.ShloMosaic.Lib.Claim
public import Idealize.ShloMosaic.Lib.Bf16Pair

@[expose] public section

set_option maxRecDepth 16384

noncomputable section

namespace Cert.Proof

open Idealize.ShloMosaic Idealize.ShloMosaic.TcCoe Idealize.SL.Sem

section
open Cert.KernelIdeal Cert.KernelIdeal.Gen Cert.KernelIdeal.Val
/-- The kernel's run. -/
theorem run_K (m : (ℓ : Loc nD τ sig) → Buf (Elt Ideal) ℓ) (g : Dev nD → PrngReg) :
    θ_run defs (onTc (τ := τ) (main (F := Ideal))) (s₀ m g) (Pipeline.FramePost cfgs (dats m) 0 (Pipeline.afterTail₀ cfgs (dats m) 0 (V0 m) [hostOps1])) :=
  θ_run_mono (run_main_quiescent m g) fun _ h => h.1
end

section
open Cert.KernelIdeal Cert.KernelIdeal.Gen Cert.KernelIdeal.Val
variable (m : (ℓ : Loc nD τ sig) → Buf (Elt Ideal) ℓ) (c : Dev nD)
/-- The kernel's first result: the packed codes, transposed. -/
theorem tail_K1 (h : S2x192x36864.Transposes [0, 2, 1] S2x36864x192) : Pipeline.afterTail₀ cfgs (dats m) 0 (V0 m) [hostOps1] c main_v1
    = transpose S2x36864x192 [0, 2, 1] (G5 (m ((c : Thread nD τ).loc main_arg0)) (m ((c : Thread nD τ).loc main_arg1)) (m ((c : Thread nD τ).loc main_arg2))) h := by
  rw [← final3]
  unfold Pipeline.afterTail₀ hostOps1
  simp only [List.flatten_cons, List.flatten_nil, List.append_nil]
  after_results
  refine congrArg (fun X => transpose S2x36864x192 [0, 2, 1] X h) ?_
  exact Pipeline.withArrays_arr (cfgs 0).spec launch0.win.arr_inj c (V0 m c) (fun w => (dats m 0 c).arrAt w (cfgs 0).N) 3
/-- The kernel's second result: the scale bytes, transposed. -/
theorem tail_K2 (h : S2x12x36864.Transposes [0, 2, 1] S2x36864x12) : Pipeline.afterTail₀ cfgs (dats m) 0 (V0 m) [hostOps1] c main_v2
    = transpose S2x36864x12 [0, 2, 1] (G6 (m ((c : Thread nD τ).loc main_arg0)) (m ((c : Thread nD τ).loc main_arg1))) h := by
  rw [← final4]
  unfold Pipeline.afterTail₀ hostOps1
  simp only [List.flatten_cons, List.flatten_nil, List.append_nil]
  after_results
  refine congrArg (fun X => transpose S2x36864x12 [0, 2, 1] X h) ?_
  exact Pipeline.withArrays_arr (cfgs 0).spec launch0.win.arr_inj c (V0 m c) (fun w => (dats m 0 c).arrAt w (cfgs 0).N) 4
end

section
open Cert.ReferenceIdeal Cert.ReferenceIdeal.Gen Cert.ReferenceIdeal.Val
variable (m : (ℓ : Loc nD τ sig) → Buf (Elt Ideal) ℓ) (c : Dev nD)
/-- The reference's first result: the packed codes, transposed. -/
theorem tail_R1 (h : S2x192x36864.Transposes [0, 2, 1] S2x36864x192) : Pipeline.afterTail₀ cfgs (dats m) 0 (V0 m) [hostOps1] c main_v1
    = transpose S2x36864x192 [0, 2, 1] (rcodes (rval (m ((c : Thread nD τ).loc main_arg0)) (m ((c : Thread nD τ).loc main_arg1))) (rword (m ((c : Thread nD τ).loc main_arg2) (ix1 0)) (m ((c : Thread nD τ).loc main_arg2) (ix1 1)))) h := by
  rw [← final3]
  unfold Pipeline.afterTail₀ hostOps1
  simp only [List.flatten_cons, List.flatten_nil, List.append_nil]
  after_results
  refine congrArg (fun X => transpose S2x36864x192 [0, 2, 1] X h) ?_
  exact Pipeline.withArrays_arr (cfgs 0).spec launch0.win.arr_inj c (V0 m c) (fun w => (dats m 0 c).arrAt w (cfgs 0).N) 3
/-- The reference's second result: the scale bytes, transposed. -/
theorem tail_R2 (h : S2x12x36864.Transposes [0, 2, 1] S2x36864x12) : Pipeline.afterTail₀ cfgs (dats m) 0 (V0 m) [hostOps1] c main_v2
    = transpose S2x36864x12 [0, 2, 1] (rscales (rval (m ((c : Thread nD τ).loc main_arg0)) (m ((c : Thread nD τ).loc main_arg1)))) h := by
  rw [← final4]
  unfold Pipeline.afterTail₀ hostOps1
  simp only [List.flatten_cons, List.flatten_nil, List.append_nil]
  after_results
  refine congrArg (fun X => transpose S2x36864x12 [0, 2, 1] X h) ?_
  exact Pipeline.withArrays_arr (cfgs 0).spec launch0.win.arr_inj c (V0 m c) (fun w => (dats m 0 c).arrAt w (cfgs 0).N) 4
end

/-- The two idealisations end with equal results. -/
theorem algebraic : Cert.algebraic_KernelIdeal_ReferenceIdeal_pre_numbers_and_moderate_scales (hPre_numbers_and_moderate_scales := Cert.Pre_numbers_and_moderate_scales.Val.facts) := by
  pair_intro
  · run_from run_K m g
  · run_from Cert.ReferenceIdeal.Gen.run_main m' g'
    · obtain ⟨hx, hs⟩ := Cert.Pre_numbers_and_moderate_scales.Val.of_fn _ _ _ (fun d => d.elim0) (congrFun (hpre c) _)
      rw [tail_R1 m' c Cert.ReferenceIdeal.Gen.transposes_S2x192x36864_S2x36864x192_0_2_1]
      refine Eq.trans ?_ (tail_K1 m c Cert.KernelIdeal.Gen.transposes_S2x192x36864_S2x36864x192_0_2_1).symm
      rw [Cert.Bridge.codes_eq _ _ _ hx hs, (hagree c).1, (hagree c).2.1, (hagree c).2.2]
    · obtain ⟨hx, hs⟩ := Cert.Pre_numbers_and_moderate_scales.Val.of_fn _ _ _ (fun d => d.elim0) (congrFun (hpre c) _)
      rw [tail_R2 m' c Cert.ReferenceIdeal.Gen.transposes_S2x12x36864_S2x36864x12_0_2_1]
      refine Eq.trans ?_ (tail_K2 m c Cert.KernelIdeal.Gen.transposes_S2x12x36864_S2x36864x12_0_2_1).symm
      rw [Cert.Bridge.scales_eq _ _ hx hs, (hagree c).1, (hagree c).2.1]

theorem claim : Cert.Claim := ⟨Cert.Kernel.Gen.facts, Cert.KernelIdeal.Gen.facts, Cert.ReferenceIdeal.Gen.facts, Cert.Pre_numbers_and_moderate_scales.Val.facts,
  fun m ρ _ => Cert.Kernel.Run.frame m ρ,
  fun m ρ _ => Cert.KernelIdeal.Run.frame m ρ,
  fun m ρ _ => Cert.KernelIdeal.Run.frame m ρ,
  fun m ρ _ => Cert.ReferenceIdeal.Gen.frame m ρ,
  fun m ρ _ => Cert.ReferenceIdeal.Gen.frame m ρ,
  Idealize.ShloMosaic.IdealRules.bf16_pair.statement Cert.KernelIdeal.S16x128 Cert.KernelIdeal.S8x128,
  algebraic⟩

end Cert.Proof

end
